-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_v58) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_inputs.lean ====
abbrev S8x8192x8192 : Shape := ⟨3, ![8, 8192, 8192]⟩
abbrev S1x4 : Shape := ⟨2, ![1, 4]⟩
abbrev S8x4x128x256 : Shape := ⟨4, ![8, 4, 128, 256]⟩
abbrev S8x8192x2048 : Shape := ⟨3, ![8, 8192, 2048]⟩
abbrev S_ : Shape := ⟨0, ![]⟩

class Facts : Prop where
  slices_S8x8192x8192_S8x8192x2048_0_0_3072 : S8x8192x8192.Slices ![0, 0, 3072] S8x8192x2048
  bitsLt_bf16_f32 : FTy.bits .bf16 < FTy.bits .f32
  bcast_S_S8x8192x2048 : S_.BroadcastsInDim S8x8192x2048 (![] : Fin 0 → Fin S8x8192x2048.rank)
  reducesTo_S8x8192x2048_S_d0_1_2 : S8x8192x2048.ReducesTo [0, 1, 2] S_
  h_S_ : 0 < S_.numel
  bcast_S_S1x4 : S_.BroadcastsInDim S1x4 (![] : Fin 0 → Fin S1x4.rank)
  reducesTo_S1x4_S_d0_1 : S1x4.ReducesTo [0, 1] S_
  bcast_S_S8x4x128x256 : S_.BroadcastsInDim S8x4x128x256 (![] : Fin 0 → Fin S8x4x128x256.rank)
  reducesTo_S8x4x128x256_S_d0_1_2_3 : S8x4x128x256.ReducesTo [0, 1, 2, 3] S_

variable [Facts]

def fn_part1 {F : FTy → Type} [FloatOps F] (main_arg4 : FVec F S8x4x128x256 .f32) (main_v15 : IVec S_ 1) (main_v16 : FVec F S8x4x128x256 .f32) (main_cst_4 : FVec F S_ .f32) : IVec S_ 1 :=
  let main_v17 : FVec F S8x4x128x256 .f32 := broadcastInDim S8x4x128x256 ![] bcast_S_S8x4x128x256 main_cst_4
  let main_v18 : IVec S8x4x128x256 1 := cmpf .olt main_v16 main_v17
  let main_c_5 : IVec S_ 1 := constantI S_ 1 1#1
  let main_v19 : IVec S_ 1 := (fun x v => Host.reduce IntOp.andi x v reducesTo_S8x4x128x256_S_d0_1_2_3 h_S_) main_v18 main_c_5
  let main_v20 : IVec S_ 1 := andi main_v15 main_v19
  let main_v21 : FVec F S8x4x128x256 .f32 := Host.absf main_arg4
  let main_cst_6 : FVec F S_ .f32 := constant S_ .f32 0x7F800000#32
  let main_v22 : FVec F S8x4x128x256 .f32 := broadcastInDim S8x4x128x256 ![] bcast_S_S8x4x128x256 main_cst_6
  let main_v23 : IVec S8x4x128x256 1 := cmpf .olt main_v21 main_v22
  let main_c_7 : IVec S_ 1 := constantI S_ 1 1#1
  let main_v24 : IVec S_ 1 := (fun x v => Host.reduce IntOp.andi x v reducesTo_S8x4x128x256_S_d0_1_2_3 h_S_) main_v23 main_c_7
  let main_v25 : IVec S_ 1 := andi main_v20 main_v24
  main_v25

def fn {F : FTy → Type} [FloatOps F] (main_arg0 : FVec F S8x8192x8192 .bf16) (main_arg1 : FVec F S1x4 .f32) (main_arg2 : FVec F S1x4 .f32) (main_arg3 : FVec F S8x4x128x256 .f32) (main_arg4 : FVec F S8x4x128x256 .f32) : IVec S_ 1 :=
  let main_v0 : FVec F S8x8192x2048 .bf16 := (extractStridedSlice S8x8192x2048 ![0, 0, 3072] · slices_S8x8192x8192_S8x8192x2048_0_0_3072) main_arg0
  let main_v1 : FVec F S8x8192x2048 .f32 := (extf .f32 · bitsLt_bf16_f32) main_v0
  let main_v2 : FVec F S8x8192x2048 .f32 := Host.absf main_v1
  let main_cst : FVec F S_ .f32 := constant S_ .f32 0x7F800000#32
  let main_v3 : FVec F S8x8192x2048 .f32 := broadcastInDim S8x8192x2048 ![] bcast_S_S8x8192x2048 main_cst
  let main_v4 : IVec S8x8192x2048 1 := cmpf .olt main_v2 main_v3
  let main_c : IVec S_ 1 := constantI S_ 1 1#1
  let main_v5 : IVec S_ 1 := (fun x v => Host.reduce IntOp.andi x v reducesTo_S8x8192x2048_S_d0_1_2 h_S_) main_v4 main_c
  let main_v6 : FVec F S1x4 .f32 := Host.absf main_arg1
  let main_cst_0 : FVec F S_ .f32 := constant S_ .f32 0x7F800000#32
  let main_v7 : FVec F S1x4 .f32 := broadcastInDim S1x4 ![] bcast_S_S1x4 main_cst_0
  let main_v8 : IVec S1x4 1 := cmpf .olt main_v6 main_v7
  let main_c_1 : IVec S_ 1 := constantI S_ 1 1#1
  let main_v9 : IVec S_ 1 := (fun x v => Host.reduce IntOp.andi x v reducesTo_S1x4_S_d0_1 h_S_) main_v8 main_c_1
  let main_v10 : IVec S_ 1 := andi main_v5 main_v9
  let main_v11 : FVec F S1x4 .f32 := Host.absf main_arg2
  let main_cst_2 : FVec F S_ .f32 := constant S_ .f32 0x7F800000#32
  let main_v12 : FVec F S1x4 .f32 := broadcastInDim S1x4 ![] bcast_S_S1x4 main_cst_2
  let main_v13 : IVec S1x4 1 := cmpf .olt main_v11 main_v12
  let main_c_3 : IVec S_ 1 := constantI S_ 1 1#1
  let main_v14 : IVec S_ 1 := (fun x v => Host.reduce IntOp.andi x v reducesTo_S1x4_S_d0_1 h_S_) main_v13 main_c_3
  let main_v15 : IVec S_ 1 := andi main_v10 main_v14
  let main_v16 : FVec F S8x4x128x256 .f32 := Host.absf main_arg3
  let main_cst_4 : FVec F S_ .f32 := constant S_ .f32 0x7F800000#32
  fn_part1 (F := F) main_arg4 main_v15 main_v16 main_cst_4
-- ==== Kernel.lean ====
abbrev S8x8192x8192 : Shape := ⟨3, ![8, 8192, 8192]⟩
abbrev S1x4 : Shape := ⟨2, ![1, 4]⟩
abbrev S8x4x128x256 : Shape := ⟨4, ![8, 4, 128, 256]⟩
abbrev S4 : Shape := ⟨1, ![4]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S8x8192x1024 : Shape := ⟨3, ![8, 8192, 1024]⟩
abbrev S1x4096x128 : Shape := ⟨3, ![1, 4096, 128]⟩
abbrev S1x4096x256 : Shape := ⟨3, ![1, 4096, 256]⟩
abbrev S4096x128 : Shape := ⟨2, ![4096, 128]⟩
abbrev S1x1x1 : Shape := ⟨3, ![1, 1, 1]⟩
abbrev S1x1x128x256 : Shape := ⟨4, ![1, 1, 128, 256]⟩
abbrev S128x256 : Shape := ⟨2, ![128, 256]⟩
abbrev S32x128x256 : Shape := ⟨3, ![32, 128, 256]⟩
abbrev S1x1 : Shape := ⟨2, ![1, 1]⟩
abbrev S256x128 : Shape := ⟨2, ![256, 128]⟩
abbrev S1x256x128 : Shape := ⟨3, ![1, 256, 128]⟩
abbrev S1x128x256 : Shape := ⟨3, ![1, 128, 256]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩

abbrev nBuf : Space → Nat
  | .hbm => 93
  | .vmem => 26
  | .smem => 0
  | _ => 0

abbrev bufTy : (tb : Table) → Fin (tcTables nBuf tb) → BufTy
  | .hbm, ⟨0, _⟩ => ⟨S8x8192x8192, .bf16⟩
  | .hbm, ⟨1, _⟩ => ⟨S1x4, .f32⟩
  | .hbm, ⟨2, _⟩ => ⟨S1x4, .f32⟩
  | .hbm, ⟨3, _⟩ => ⟨S8x4x128x256, .f32⟩
  | .hbm, ⟨4, _⟩ => ⟨S8x4x128x256, .f32⟩
  | .hbm, ⟨5, _⟩ => ⟨S4, .f32⟩
  | .hbm, ⟨6, _⟩ => ⟨S4, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S8192, .i32⟩
  | .hbm, ⟨16, _⟩ => ⟨S_, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S8192, .i32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S8192, .i32⟩
  | .hbm, ⟨42, _⟩ => ⟨S8192, .i32⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S_, .i32⟩
  | .hbm, ⟨47, _⟩ => ⟨S8192, .i32⟩
  | .hbm, ⟨48, _⟩ => ⟨S8192, .i1⟩
  | .hbm, ⟨49, _⟩ => ⟨S_, .i32⟩
  | .hbm, ⟨50, _⟩ => ⟨S_, .i1⟩
  | .hbm, ⟨51, _⟩ => ⟨S8192, .i1⟩
  | .hbm, ⟨52, _⟩ => ⟨S8192, .i1⟩
  | .hbm, ⟨53, _⟩ => ⟨S8192, .i1⟩
  | .hbm, ⟨54, _⟩ => ⟨S8192, .i32⟩
  | .hbm, ⟨55, _⟩ => ⟨S8192, .i32⟩
  | .hbm, ⟨56, _⟩ => ⟨S8192, .i32⟩
  | .hbm, ⟨57, _⟩ => ⟨S8192, .f32⟩
  | .hbm, ⟨58, _⟩ => ⟨S8192x1, .f32⟩
  | .hbm, ⟨59, _⟩ => ⟨S1x32, .f32⟩
  | .hbm, ⟨60, _⟩ => ⟨S8192x32, .f32⟩
  | .hbm, ⟨61, _⟩ => ⟨S8192x32, .f32⟩
  | .hbm, ⟨62, _⟩ => ⟨S8192x32, .f32⟩
  | .hbm, ⟨63, _⟩ => ⟨S8192x1, .f32⟩
  | .hbm, ⟨64, _⟩ => ⟨S1x32, .f32⟩
  | .hbm, ⟨65, _⟩ => ⟨S8192x32, .f32⟩
  | .hbm, ⟨66, _⟩ => ⟨S8192x32, .f32⟩
  | .hbm, ⟨67, _⟩ => ⟨S8192x32, .f32⟩
  | .hbm, ⟨68, _⟩ => ⟨S8192x32, .f32⟩
  | .hbm, ⟨69, _⟩ => ⟨S8192x32, .f32⟩
  | .hbm, ⟨70, _⟩ => ⟨S8192x32, .f32⟩
  | .hbm, ⟨71, _⟩ => ⟨S8192x32, .f32⟩
  | .hbm, ⟨72, _⟩ => ⟨S8192x128, .f32⟩
  | .hbm, ⟨73, _⟩ => ⟨S8192x32, .f32⟩
  | .hbm, ⟨74, _⟩ => ⟨S8192x32, .f32⟩
  | .hbm, ⟨75, _⟩ => ⟨S8192x32, .f32⟩
  | .hbm, ⟨76, _⟩ => ⟨S8192x32, .f32⟩
  | .hbm, ⟨77, _⟩ => ⟨S8192x32, .f32⟩
  | .hbm, ⟨78, _⟩ => ⟨S8192x32, .f32⟩
  | .hbm, ⟨79, _⟩ => ⟨S8192x128, .f32⟩
  | .hbm, ⟨80, _⟩ => ⟨S128, .i32⟩
  | .hbm, ⟨81, _⟩ => ⟨S128x1, .i32⟩
  | .hbm, ⟨82, _⟩ => ⟨S1x128, .i32⟩
  | .hbm, ⟨83, _⟩ => ⟨S_, .i32⟩
  | .hbm, ⟨84, _⟩ => ⟨S1x128, .i32⟩
  | .hbm, ⟨85, _⟩ => ⟨S1x128, .i32⟩
  | .hbm, ⟨86, _⟩ => ⟨S128x128, .i32⟩
  | .hbm, ⟨87, _⟩ => ⟨S128x128, .i32⟩
  | .hbm, ⟨88, _⟩ => ⟨S128x128, .i1⟩
  | .hbm, ⟨89, _⟩ => ⟨S128x128, .bf16⟩
  | .hbm, ⟨90, _⟩ => ⟨S4x1x1, .f32⟩
  | .hbm, ⟨91, _⟩ => ⟨S4x1x1, .f32⟩
  | .hbm, ⟨92, _⟩ => ⟨S8x8192x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S128x128, .bf16⟩
  | .local _ .vmem, ⟨13, _⟩ => ⟨S1x1x1, .f32⟩
  | .local _ .vmem, ⟨14, _⟩ => ⟨S1x1x1, .f32⟩
  | .local _ .vmem, ⟨15, _⟩ => ⟨S1x1x1, .f32⟩
  | .local _ .vmem, ⟨16, _⟩ => ⟨S1x1x1, .f32⟩
  | .local _ .vmem, ⟨17, _⟩ => ⟨S1x1x128x256, .f32⟩
  | .local _ .vmem, ⟨18, _⟩ => ⟨S1x1x128x256, .f32⟩
  | .local _ .vmem, ⟨19, _⟩ => ⟨S1x1x128x256, .f32⟩
  | .local _ .vmem, ⟨20, _⟩ => ⟨S1x1x128x256, .f32⟩
  | .local _ .vmem, ⟨21, _⟩ => ⟨S1x4096x256, .bf16⟩
  | .local _ .vmem, ⟨22, _⟩ => ⟨S1x4096x256, .bf16⟩
  | .local _ .vmem, ⟨23, _⟩ => ⟨S128x256, .f32⟩
  | .local _ .vmem, ⟨24, _⟩ => ⟨S128x256, .f32⟩
  | .local _ .vmem, ⟨25, _⟩ => ⟨S32x128x256, .f32⟩
  | _, _ => ⟨S8x8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v9 : Ref sig .tc := ⟨.hbm, 33, rfl⟩
abbrev main_v10 : Ref sig .tc := ⟨.hbm, 34, rfl⟩
abbrev main_c_1 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_c_2 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let c2_i32_7 : BitVec 32 := 2#32
  let v12 : BitVec 1 := Scalar.cmpi .slt arg2 c2_i32_7
  let v13 : BitVec 32 := Scalar.extui v12
  let c0_i32_8 : BitVec 32 := 0#32
  let v14 : BitVec 1 := Scalar.cmpi .ne v13 c0_i32_8
  v14

def k0_off1 (i : grid0.Coords) (c15_i32 : BitVec 32) : Fin 3 → Nat :=
  let c1_i32 : BitVec 32 := 1#32
  let arg2 : BitVec 32 := BitVec.ofNat 32 (i 2).val
  let v18 : BitVec 32 := Scalar.subi c1_i32 arg2
  let c16_i32 : BitVec 32 := 16#32
  let v41 : BitVec 32 := Scalar.muli v18 c16_i32
  let v42 : BitVec 32 := Scalar.addi v41 c15_i32
  let v43 : Index := Scalar.indexCast v42
  let c0_23 : Index := 0#32
  let c0_24 : Index := 0#32
  ![v43.toNat, 0, 0]
def k0_cond4 (i : grid0.Coords) : BitVec 1 :=
  let arg2 : BitVec 32 := BitVec.ofNat 32 (i 2).val
  let c2_i32_9 : BitVec 32 := 2#32
  let v15 : BitVec 1 := Scalar.cmpi .sge arg2 c2_i32_9
  let v16 : BitVec 32 := Scalar.extui v15
  let c0_i32_10 : BitVec 32 := 0#32
  let v17 : BitVec 1 := Scalar.cmpi .ne v16 c0_i32_10
  v17

def k0_off2 (i : grid0.Coords) (c0_i32_46 : BitVec 32) : Fin 3 → Nat :=
  let arg2 : BitVec 32 := BitVec.ofNat 32 (i 2).val
  let c2_i32_11 : BitVec 32 := 2#32
  let v18 : BitVec 32 := Scalar.subi arg2 c2_i32_11
  let c16_i32 : BitVec 32 := 16#32
  let v97 : BitVec 32 := Scalar.muli v18 c16_i32
  let v98 : BitVec 32 := Scalar.addi v97 c0_i32_46
  let v99 : Index := Scalar.indexCast v98
  let c0_47 : Index := 0#32
  let c0_48 : Index := 0#32
  ![v99.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c24_i32 : BitVec 32 := 24#32
  let v2 : BitVec 32 := Scalar.addi c24_i32 arg1
  let c0_i32_0 : BitVec 32 := 0#32
  ![arg0.toNat, v1.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c1_i32 : BitVec 32 := 1#32
  let v1 : BitVec 32 := Scalar.subi c1_i32 arg2
  let c2_i32_0 : BitVec 32 := 2#32
  let v2 : BitVec 32 := Scalar.subi arg2 c2_i32_0
  let v3 : BitVec 32 := Scalar.select v0 v1 v2
  let c28_i32 : BitVec 32 := 28#32
  let v4 : BitVec 32 := Scalar.addi c28_i32 arg1
  let c0_i32 : BitVec 32 := 0#32
  ![arg0.toNat, v3.toNat, v4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c1_i32 : BitVec 32 := 1#32
  let v1 : BitVec 32 := Scalar.subi c1_i32 arg2
  let c2_i32_0 : BitVec 32 := 2#32
  let v2 : BitVec 32 := Scalar.subi arg2 c2_i32_0
  let v3 : BitVec 32 := Scalar.select v0 v1 v2
  let c16_i32 : BitVec 32 := 16#32
  let v4 : BitVec 32 := Scalar.addi c16_i32 arg1
  let c0_i32 : BitVec 32 := 0#32
  ![arg0.toNat, v3.toNat, v4.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c20_i32 : BitVec 32 := 20#32
  let v2 : BitVec 32 := Scalar.addi c20_i32 arg1
  let c0_i32_0 : BitVec 32 := 0#32
  ![arg0.toNat, v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c1_i32 : BitVec 32 := 1#32
  let v1 : BitVec 32 := Scalar.subi c1_i32 arg2
  let c2_i32_0 : BitVec 32 := 2#32
  let v2 : BitVec 32 := Scalar.subi arg2 c2_i32_0
  let v3 : BitVec 32 := Scalar.select v0 v1 v2
  let c0_i32 : BitVec 32 := 0#32
  let c0_i32_1 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c1_i32 : BitVec 32 := 1#32
  let v1 : BitVec 32 := Scalar.subi c1_i32 arg2
  let c2_i32_0 : BitVec 32 := 2#32
  let v2 : BitVec 32 := Scalar.subi arg2 c2_i32_0
  let v3 : BitVec 32 := Scalar.select v0 v1 v2
  let c0_i32 : BitVec 32 := 0#32
  let c0_i32_1 : BitVec 32 := 0#32
  ![v3.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  ![arg0.toNat, v1.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x4096x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== ReferenceIdeal.lean ====
abbrev S8x8192x8192 : Shape := ⟨3, ![8, 8192, 8192]⟩
abbrev S1x4 : Shape := ⟨2, ![1, 4]⟩
abbrev S8x4x128x256 : Shape := ⟨4, ![8, 4, 128, 256]⟩
abbrev S8x8192x3072 : Shape := ⟨3, ![8, 8192, 3072]⟩
abbrev S8x8192x512 : Shape := ⟨3, ![8, 8192, 512]⟩
abbrev S8x8192x1024 : Shape := ⟨3, ![8, 8192, 1024]⟩
abbrev S4 : Shape := ⟨1, ![4]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S8x8192x4x128 : Shape := ⟨4, ![8, 8192, 4, 128]⟩
abbrev S32 : Shape := ⟨1, ![32]⟩
abbrev S_ : Shape := ⟨0, ![]⟩
abbrev S8x8192x4x64 : Shape := ⟨4, ![8, 8192, 4, 64]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S8x8192x4x32 : Shape := ⟨4, ![8, 8192, 4, 32]⟩
abbrev S8x8192x4x256 : Shape := ⟨4, ![8, 8192, 4, 256]⟩
abbrev S8x4x8192x128 : Shape := ⟨4, ![8, 4, 8192, 128]⟩
abbrev S8x4x8192x256 : Shape := ⟨4, ![8, 4, 8192, 256]⟩
abbrev S1x8192 : Shape := ⟨2, ![1, 8192]⟩
abbrev S8192x8192 : Shape := ⟨2, ![8192, 8192]⟩
abbrev S4x1 : Shape := ⟨2, ![4, 1]⟩
abbrev S4x1x1 : Shape := ⟨3, ![4, 1, 1]⟩
abbrev S1x8192x8192 : Shape := ⟨3, ![1, 8192, 8192]⟩
abbrev S4x8192x8192 : Shape := ⟨3, ![4, 8192, 8192]⟩
abbrev S4x8192 : Shape := ⟨2, ![4, 8192]⟩
abbrev S4x8192x1 : Shape := ⟨3, ![4, 8192, 1]⟩
abbrev S8x4x8192x8192 : Shape := ⟨4, ![8, 4, 8192, 8192]⟩
abbrev S1x4x8192x8192 : Shape := ⟨4, ![1, 4, 8192, 8192]⟩
abbrev S1x4x8192x1 : Shape := ⟨4, ![1, 4, 8192, 1]⟩
abbrev S8x8192x4 : Shape := ⟨3, ![8, 8192, 4]⟩
abbrev S8x8192x4x1 : Shape := ⟨4, ![8, 8192, 4, 1]⟩

abbrev nBuf : Space → Nat
  | .hbm => 250
  | .vmem => 0
  | .smem => 0
  | _ => 0

abbrev hbmTy0_0 (i : Nat) : BufTy := match i % 128 with
  | 0 => ⟨S8x8192x8192, .bf16⟩
  | 1 => ⟨S1x4, .f32⟩
  | 2 => ⟨S1x4, .f32⟩
  | 3 => ⟨S8x4x128x256, .f32⟩
  | 4 => ⟨S8x4x128x256, .f32⟩
  | 5 => ⟨S8x8192x8192, .f32⟩
  | 6 => ⟨S8x8192x3072, .f32⟩
  | 7 => ⟨S8x8192x512, .f32⟩
  | 8 => ⟨S8x8192x512, .f32⟩
  | 9 => ⟨S8x8192x1024, .f32⟩
  | 10 => ⟨S8x8192x3072, .f32⟩
  | 11 => ⟨S4, .f32⟩
  | 12 => ⟨S4, .f32⟩
  | 13 => ⟨S128, .f32⟩
  | 14 => ⟨S128x64, .f32⟩
  | 15 => ⟨S8192, .f32⟩
  | 16 => ⟨S64, .f32⟩
  | 17 => ⟨S1x64, .f32⟩
  | 18 => ⟨S128x64, .f32⟩
  | 19 => ⟨S8192, .f32⟩
  | 20 => ⟨S8x8192x4x128, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S8x8192x4x64, .f32⟩
  | 30 => ⟨S8192x1, .f32⟩
  | 31 => ⟨S1x32, .f32⟩
  | 32 => ⟨S8192x32, .f32⟩
  | 33 => ⟨S8192x32, .f32⟩
  | 34 => ⟨S8192x32, .f32⟩
  | 35 => ⟨S8192x32, .f32⟩
  | 36 => ⟨S1x8192x1x32, .f32⟩
  | 37 => ⟨S8192x32, .f32⟩
  | 38 => ⟨S1x8192x1x32, .f32⟩
  | 39 => ⟨S8x8192x4x32, .f32⟩
  | 40 => ⟨S8x8192x4x32, .f32⟩
  | 41 => ⟨S8x8192x4x32, .f32⟩
  | 42 => ⟨S8x8192x4x32, .f32⟩
  | 43 => ⟨S8x8192x4x32, .f32⟩
  | 44 => ⟨S8x8192x4x32, .f32⟩
  | 45 => ⟨S8x8192x4x32, .f32⟩
  | 46 => ⟨S8x8192x4x32, .f32⟩
  | 47 => ⟨S8x8192x4x32, .f32⟩
  | 48 => ⟨S8x8192x4x32, .f32⟩
  | 49 => ⟨S8x8192x4x32, .f32⟩
  | 50 => ⟨S8x8192x4x32, .f32⟩
  | 51 => ⟨S8x8192x4x64, .f32⟩
  | 52 => ⟨S8x8192x4x64, .f32⟩
  | 53 => ⟨S8192x1, .f32⟩
  | 54 => ⟨S1x32, .f32⟩
  | 55 => ⟨S8192x32, .f32⟩
  | 56 => ⟨S8192x32, .f32⟩
  | 57 => ⟨S8192x32, .f32⟩
  | 58 => ⟨S8192x32, .f32⟩
  | 59 => ⟨S1x8192x1x32, .f32⟩
  | 60 => ⟨S8192x32, .f32⟩
  | 61 => ⟨S1x8192x1x32, .f32⟩
  | 62 => ⟨S8x8192x4x32, .f32⟩
  | 63 => ⟨S8x8192x4x32, .f32⟩
  | 64 => ⟨S8x8192x4x32, .f32⟩
  | 65 => ⟨S8x8192x4x32, .f32⟩
  | 66 => ⟨S8x8192x4x32, .f32⟩
  | 67 => ⟨S8x8192x4x32, .f32⟩
  | 68 => ⟨S8x8192x4x32, .f32⟩
  | 69 => ⟨S8x8192x4x32, .f32⟩
  | 70 => ⟨S8x8192x4x32, .f32⟩
  | 71 => ⟨S8x8192x4x32, .f32⟩
  | 72 => ⟨S8x8192x4x32, .f32⟩
  | 73 => ⟨S8x8192x4x32, .f32⟩
  | 74 => ⟨S8x8192x4x64, .f32⟩
  | 75 => ⟨S8x8192x4x128, .f32⟩
  | 76 => ⟨S8x8192x4x128, .f32⟩
  | 77 => ⟨S32, .f32⟩
  | 78 => ⟨S32, .f32⟩
  | 79 => ⟨S_, .f32⟩
  | 80 => ⟨S32, .f32⟩
  | 81 => ⟨S32, .f32⟩
  | 82 => ⟨S_, .f32⟩
  | 83 => ⟨S32, .f32⟩
  | 84 => ⟨S32, .f32⟩
  | 85 => ⟨S8x8192x4x64, .f32⟩
  | 86 => ⟨S8192x1, .f32⟩
  | 87 => ⟨S1x32, .f32⟩
  | 88 => ⟨S8192x32, .f32⟩
  | 89 => ⟨S8192x32, .f32⟩
  | 90 => ⟨S8192x32, .f32⟩
  | 91 => ⟨S8192x32, .f32⟩
  | 92 => ⟨S1x8192x1x32, .f32⟩
  | 93 => ⟨S8192x32, .f32⟩
  | 94 => ⟨S1x8192x1x32, .f32⟩
  | 95 => ⟨S8x8192x4x32, .f32⟩
  | 96 => ⟨S8x8192x4x32, .f32⟩
  | 97 => ⟨S8x8192x4x32, .f32⟩
  | 98 => ⟨S8x8192x4x32, .f32⟩
  | 99 => ⟨S8x8192x4x32, .f32⟩
  | 100 => ⟨S8x8192x4x32, .f32⟩
  | 101 => ⟨S8x8192x4x32, .f32⟩
  | 102 => ⟨S8x8192x4x32, .f32⟩
  | 103 => ⟨S8x8192x4x32, .f32⟩
  | 104 => ⟨S8x8192x4x32, .f32⟩
  | 105 => ⟨S8x8192x4x32, .f32⟩
  | 106 => ⟨S8x8192x4x32, .f32⟩
  | 107 => ⟨S8x8192x4x64, .f32⟩
  | 108 => ⟨S8x8192x4x64, .f32⟩
  | 109 => ⟨S8192x1, .f32⟩
  | 110 => ⟨S1x32, .f32⟩
  | 111 => ⟨S8192x32, .f32⟩
  | 112 => ⟨S8192x32, .f32⟩
  | 113 => ⟨S8192x32, .f32⟩
  | 114 => ⟨S8192x32, .f32⟩
  | 115 => ⟨S1x8192x1x32, .f32⟩
  | 116 => ⟨S8192x32, .f32⟩
  | 117 => ⟨S1x8192x1x32, .f32⟩
  | 118 => ⟨S8x8192x4x32, .f32⟩
  | 119 => ⟨S8x8192x4x32, .f32⟩
  | 120 => ⟨S8x8192x4x32, .f32⟩
  | 121 => ⟨S8x8192x4x32, .f32⟩
  | 122 => ⟨S8x8192x4x32, .f32⟩
  | 123 => ⟨S8x8192x4x32, .f32⟩
  | 124 => ⟨S8x8192x4x32, .f32⟩
  | 125 => ⟨S8x8192x4x32, .f32⟩
  | 126 => ⟨S8x8192x4x32, .f32⟩
  | 127 => ⟨S8x8192x4x32, .f32⟩
  | _ => ⟨S8x8192x8192, .bf16⟩

abbrev hbmTy0_1 (i : Nat) : BufTy := match i % 128 with
  | 0 => ⟨S8x8192x4x32, .f32⟩
  | 1 => ⟨S8x8192x4x32, .f32⟩
  | 2 => ⟨S8x8192x4x64, .f32⟩
  | 3 => ⟨S8x8192x4x128, .f32⟩
  | 4 => ⟨S_, .f32⟩
  | 5 => ⟨S8x8192x4x128, .f32⟩
  | 6 => ⟨S8x8192x4x128, .f32⟩
  | 7 => ⟨S8x8192x4x256, .f32⟩
  | 8 => ⟨S8x4x8192x128, .f32⟩
  | 9 => ⟨S8x4x8192x128, .f32⟩
  | 10 => ⟨S8x4x8192x256, .f32⟩
  | 11 => ⟨S8192, .f32⟩
  | 12 => ⟨S8192x1, .f32⟩
  | 13 => ⟨S1x8192, .f32⟩
  | 14 => ⟨S8192x8192, .f32⟩
  | 15 => ⟨S8192x8192, .f32⟩
  | 16 => ⟨S8192x8192, .f32⟩
  | 17 => ⟨S_, .f32⟩
  | 18 => ⟨S8192, .f32⟩
  | 19 => ⟨S8192, .f32⟩
  | 20 => ⟨S4x1, .f32⟩
  | 21 => ⟨S_, .f32⟩
  | 22 => ⟨S8192x8192, .f32⟩
  | 23 => ⟨S8192x8192, .i1⟩
  | 24 => ⟨S4x1x1, .f32⟩
  | 25 => ⟨S_, .f32⟩
  | 26 => ⟨S8192x8192, .f32⟩
  | 27 => ⟨S8192x8192, .f32⟩
  | 28 => ⟨S1x8192x8192, .f32⟩
  | 29 => ⟨S4x8192x8192, .f32⟩
  | 30 => ⟨S4x8192x8192, .f32⟩
  | 31 => ⟨S4x8192x8192, .f32⟩
  | 32 => ⟨S4x8192x8192, .f32⟩
  | 33 => ⟨S_, .f32⟩
  | 34 => ⟨S_, .f32⟩
  | 35 => ⟨S4x8192x8192, .i1⟩
  | 36 => ⟨S4x8192x8192, .f32⟩
  | 37 => ⟨S4x8192x8192, .f32⟩
  | 38 => ⟨S1x8192, .f32⟩
  | 39 => ⟨S4x8192, .f32⟩
  | 40 => ⟨S4x8192, .f32⟩
  | 41 => ⟨S4x8192, .f32⟩
  | 42 => ⟨S4x8192, .f32⟩
  | 43 => ⟨S4x8192x1, .f32⟩
  | 44 => ⟨S8x4x8192x8192, .f32⟩
  | 45 => ⟨S1x4x8192x8192, .f32⟩
  | 46 => ⟨S8x4x8192x8192, .f32⟩
  | 47 => ⟨S8x4x8192x8192, .f32⟩
  | 48 => ⟨S8x4x8192x256, .f32⟩
  | 49 => ⟨S8x4x8192x256, .f32⟩
  | 50 => ⟨S1x4x8192x1, .f32⟩
  | 51 => ⟨S8x4x8192x256, .f32⟩
  | 52 => ⟨S8x4x8192x256, .f32⟩
  | 53 => ⟨S8x4x8192x256, .f32⟩
  | 54 => ⟨S8192x8192, .f32⟩
  | 55 => ⟨S_, .f32⟩
  | 56 => ⟨S8192, .f32⟩
  | 57 => ⟨S8192, .f32⟩
  | 58 => ⟨S4x1, .f32⟩
  | 59 => ⟨S_, .f32⟩
  | 60 => ⟨S8192x8192, .f32⟩
  | 61 => ⟨S8192x8192, .i1⟩
  | 62 => ⟨S4x1x1, .f32⟩
  | 63 => ⟨S_, .f32⟩
  | 64 => ⟨S8192x8192, .f32⟩
  | 65 => ⟨S8192x8192, .f32⟩
  | 66 => ⟨S1x8192x8192, .f32⟩
  | 67 => ⟨S4x8192x8192, .f32⟩
  | 68 => ⟨S4x8192x8192, .f32⟩
  | 69 => ⟨S4x8192x8192, .f32⟩
  | 70 => ⟨S4x8192x8192, .f32⟩
  | 71 => ⟨S_, .f32⟩
  | 72 => ⟨S_, .f32⟩
  | 73 => ⟨S4x8192x8192, .i1⟩
  | 74 => ⟨S4x8192x8192, .f32⟩
  | 75 => ⟨S4x8192x8192, .f32⟩
  | 76 => ⟨S1x8192, .f32⟩
  | 77 => ⟨S4x8192, .f32⟩
  | 78 => ⟨S4x8192, .f32⟩
  | 79 => ⟨S4x8192, .f32⟩
  | 80 => ⟨S4x8192, .f32⟩
  | 81 => ⟨S4x8192x1, .f32⟩
  | 82 => ⟨S8x4x8192x8192, .f32⟩
  | 83 => ⟨S1x4x8192x8192, .f32⟩
  | 84 => ⟨S8x4x8192x8192, .f32⟩
  | 85 => ⟨S8x4x8192x8192, .f32⟩
  | 86 => ⟨S8x4x8192x256, .f32⟩
  | 87 => ⟨S8x4x8192x256, .f32⟩
  | 88 => ⟨S1x4x8192x1, .f32⟩
  | 89 => ⟨S8x4x8192x256, .f32⟩
  | 90 => ⟨S8x4x8192x256, .f32⟩
  | 91 => ⟨S8x4x8192x256, .f32⟩
  | 92 => ⟨S8x4x8192x256, .f32⟩
  | 93 => ⟨S8x8192x4x256, .f32⟩
  | 94 => ⟨S8x8192x1024, .bf16⟩
  | 95 => ⟨S8x8192x1024, .f32⟩
  | 96 => ⟨S8x8192x4x256, .f32⟩
  | 97 => ⟨S_, .f32⟩
  | 98 => ⟨S8x8192x4, .f32⟩
  | 99 => ⟨S8x8192x4x1, .f32⟩
  | 100 => ⟨S_, .f32⟩
  | 101 => ⟨S8x8192x4x1, .f32⟩
  | 102 => ⟨S8x8192x4x1, .f32⟩
  | 103 => ⟨S_, .f32⟩
  | 104 => ⟨S8x8192x4x1, .f32⟩
  | 105 => ⟨S8x8192x4x1, .f32⟩
  | 106 => ⟨S8x8192x4x1, .f32⟩
  | 107 => ⟨S8x8192x4x256, .f32⟩
  | 108 => ⟨S8x8192x4x256, .f32⟩
  | 109 => ⟨S8x8192x1024, .f32⟩
  | 110 => ⟨S8x8192x1024, .f32⟩
  | 111 => ⟨S_, .f32⟩
  | 112 => ⟨S8x8192x1024, .f32⟩
  | 113 => ⟨S8x8192x1024, .f32⟩
  | 114 => ⟨S_, .f32⟩
  | 115 => ⟨S8x8192x1024, .f32⟩
  | 116 => ⟨S8x8192x1024, .f32⟩
  | 117 => ⟨S8x8192x1024, .f32⟩
  | 118 => ⟨S8x8192x4x256, .f32⟩
  | 119 => ⟨S8x8192x4x256, .f32⟩
  | 120 => ⟨S8x8192x1024, .f32⟩
  | 121 => ⟨S8x8192x1024, .bf16⟩
  | _ => ⟨S8x8192x8192, .bf16⟩

abbrev hbmTy (i : Nat) : BufTy := match i / 128 with
  | 0 => hbmTy0_0 i
  | 1 => hbmTy0_1 i
  | _ => ⟨S8x8192x8192, .bf16⟩

abbrev bufTy : (tb : Table) → Fin (tcTables nBuf tb) → BufTy
  | .hbm, ⟨i, _⟩ => hbmTy i
  | _, _ => ⟨S8x8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_cst_1 : Ref sig .tc := ⟨.hbm, 79, rfl⟩
abbrev main_v72 : Ref sig .tc := ⟨.hbm, 80, rfl⟩
abbrev main_v73 : Ref sig .tc := ⟨.hbm, 81, rfl⟩
abbrev main_cst_2 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_cst_3 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_cst_4 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_cst_5 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_cst_6 : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_v144 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_cst_7 : Ref sig .tc := ⟨.hbm, 161, rfl⟩
abbrev main_call0_v0 : Ref sig .tc := ⟨.hbm, 162, rfl⟩
abbrev main_call0_v1 : Ref sig .tc := ⟨.hbm, 163, rfl⟩
abbrev main_call0_v2 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_cst_8 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_cst_9 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_cst_10 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_cst_11 : Ref sig .tc := ⟨.hbm, 199, rfl⟩
abbrev main_call1_v0 : Ref sig .tc := ⟨.hbm, 200, rfl⟩
abbrev main_call1_v1 : Ref sig .tc := ⟨.hbm, 201, rfl⟩
abbrev main_call1_v2 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_cst_12 : Ref sig .tc := ⟨.hbm, 225, rfl⟩
abbrev main_v201 : Ref sig .tc := ⟨.hbm, 226, rfl⟩
abbrev main_v202 : Ref sig .tc := ⟨.hbm, 227, rfl⟩
abbrev main_cst_13 : Ref sig .tc := ⟨.hbm, 228, rfl⟩
abbrev main_v203 : Ref sig .tc := ⟨.hbm, 229, rfl⟩
abbrev main_v204 : Ref sig .tc := ⟨.hbm, 230, rfl⟩
abbrev main_cst_14 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_call2_v0 : Ref sig .tc := ⟨.hbm, 237, rfl⟩
abbrev main_call2_v1 : Ref sig .tc := ⟨.hbm, 238, rfl⟩
abbrev main_call2_cst : Ref sig .tc := ⟨.hbm, 239, rfl⟩
abbrev main_call2_v2 : Ref sig .tc := ⟨.hbm, 240, rfl⟩
abbrev main_call2_v3 : Ref sig .tc := ⟨.hbm, 241, rfl⟩
abbrev main_call2_cst_0 : Ref sig .tc := ⟨.hbm, 242, rfl⟩
abbrev main_call2_v4 : Ref sig .tc := ⟨.hbm, 243, rfl⟩
abbrev main_call2_v5 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x1x1024 : Shape := ⟨3, ![8, 1, 1024]⟩
abbrev S1x1024 : Shape := ⟨2, ![1, 1024]⟩
abbrev S1x1024x8192 : Shape := ⟨3, ![1, 1024, 8192]⟩
abbrev S1024 : Shape := ⟨1, ![1024]⟩
abbrev S1024x8192 : Shape := ⟨2, ![1024, 8192]⟩
abbrev S8x8192x8192 : Shape := ⟨3, ![8, 8192, 8192]⟩
abbrev S1x512x1024 : Shape := ⟨3, ![1, 512, 1024]⟩
abbrev S1x1x1024 : Shape := ⟨3, ![1, 1, 1024]⟩
abbrev S1x512x8192 : Shape := ⟨3, ![1, 512, 8192]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 10
  | .vmem => 10
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1x1024x8192, .f32⟩
  | .hbm, ⟨5, _⟩ => ⟨S1024, .f32⟩
  | .hbm, ⟨6, _⟩ => ⟨S1x1024, .f32⟩
  | .hbm, ⟨7, _⟩ => ⟨S1024x8192, .f32⟩
  | .hbm, ⟨8, _⟩ => ⟨S1024x8192, .bf16⟩
  | .hbm, ⟨9, _⟩ => ⟨S8x8192x8192, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x8192, .bf16⟩
  | .local _ .vmem, ⟨8, _⟩ => ⟨S1x512x8192, .bf16⟩
  | .local _ .vmem, ⟨9, _⟩ => ⟨S1x512x8192, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x8192x1024 : Shape := ⟨3, ![8, 8192, 1024]⟩
abbrev S8x1x1024 : Shape := ⟨3, ![8, 1, 1024]⟩
abbrev S1x1024 : Shape := ⟨2, ![1, 1024]⟩
abbrev S1x1024x8192 : Shape := ⟨3, ![1, 1024, 8192]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x8192 : Shape := ⟨2, ![1024, 8192]⟩
abbrev S8x8192x8192 : Shape := ⟨3, ![8, 8192, 8192]⟩

abbrev nBuf : Space → Nat
  | .hbm => 32
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1x1024x8192, .f32⟩
  | .hbm, ⟨5, _⟩ => ⟨S1024, .f32⟩
  | .hbm, ⟨6, _⟩ => ⟨S8x8192x1024, .f32⟩
  | .hbm, ⟨7, _⟩ => ⟨S_, .f32⟩
  | .hbm, ⟨8, _⟩ => ⟨S8x8192, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S8x8192x1, .f32⟩
  | .hbm, ⟨17, _⟩ => ⟨S8x8192x1024, .f32⟩
  | .hbm, ⟨18, _⟩ => ⟨S8x8192x1024, .f32⟩
  | .hbm, ⟨19, _⟩ => ⟨S1x1x1024, .f32⟩
  | .hbm, ⟨20, _⟩ => ⟨S8x8192x1024, .f32⟩
  | .hbm, ⟨21, _⟩ => ⟨S8x8192x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S8x8192x1024, .f32⟩
  | .hbm, ⟨29, _⟩ => ⟨S1024x8192, .f32⟩
  | .hbm, ⟨30, _⟩ => ⟨S8x8192x8192, .f32⟩
  | .hbm, ⟨31, _⟩ => ⟨S8x8192x8192, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x8192x8192 : Shape := ⟨3, ![8, 8192, 8192]⟩
abbrev S8x1x1024 : Shape := ⟨3, ![8, 1, 1024]⟩
abbrev S1x1024 : Shape := ⟨2, ![1, 1024]⟩
abbrev S1x1024x1024 : Shape := ⟨3, ![1, 1024, 1024]⟩
abbrev S1024 : Shape := ⟨1, ![1024]⟩
abbrev S1024x1024 : Shape := ⟨2, ![1024, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 26
  | .vmem => 29
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x1024, .bf16⟩
  | .hbm, ⟨3, _⟩ => ⟨S8x8192x1024, .bf16⟩
  | .hbm, ⟨4, _⟩ => ⟨S8x8192x8192, .bf16⟩
  | .hbm, ⟨5, _⟩ => ⟨S8x8192x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S1x1024, .f32⟩
  | .hbm, ⟨10, _⟩ => ⟨S1x1024, .f32⟩
  | .hbm, ⟨11, _⟩ => ⟨S1x1024x1024, .f32⟩
  | .hbm, ⟨12, _⟩ => ⟨S1x1024x1024, .f32⟩
  | .hbm, ⟨13, _⟩ => ⟨S1x1024x1024, .f32⟩
  | .hbm, ⟨14, _⟩ => ⟨S1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S8x8192x1024, .f32⟩
  | .hbm, ⟨25, _⟩ => ⟨S8x8192x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1024, .f32⟩
  | .local _ .vmem, ⟨21, _⟩ => ⟨S1x1024, .f32⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1x512x1024, .f32⟩
  | .local _ .vmem, ⟨26, _⟩ => ⟨S1x512x1024, .f32⟩
  | .local _ .vmem, ⟨27, _⟩ => ⟨S1x512x1024, .bf16⟩
  | .local _ .vmem, ⟨28, _⟩ => ⟨S1x512x1024, .bf16⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S8x8192x1024 : Shape := ⟨3, ![8, 8192, 1024]⟩
abbrev S8x8192x8192 : Shape := ⟨3, ![8, 8192, 8192]⟩
abbrev S8x1x1024 : Shape := ⟨3, ![8, 1, 1024]⟩
abbrev S1x1024 : Shape := ⟨2, ![1, 1024]⟩
abbrev S1x1024x1024 : Shape := ⟨3, ![1, 1024, 1024]⟩
abbrev S1024 : Shape := ⟨1, ![1024]⟩
abbrev S1x1x1024 : Shape := ⟨3, ![1, 1, 1024]⟩
abbrev S1024x1024 : Shape := ⟨2, ![1024, 1024]⟩
abbrev S_ : Shape := ⟨0, ![]⟩
abbrev S8x8192 : Shape := ⟨2, ![8, 8192]⟩
abbrev S8x8192x1 : Shape := ⟨3, ![8, 8192, 1]⟩

abbrev nBuf : Space → Nat
  | .hbm => 81
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x1024, .bf16⟩
  | .hbm, ⟨3, _⟩ => ⟨S8x8192x1024, .bf16⟩
  | .hbm, ⟨4, _⟩ => ⟨S8x8192x8192, .bf16⟩
  | .hbm, ⟨5, _⟩ => ⟨S8x8192x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S1x1024, .f32⟩
  | .hbm, ⟨10, _⟩ => ⟨S1x1024, .f32⟩
  | .hbm, ⟨11, _⟩ => ⟨S1x1024x1024, .f32⟩
  | .hbm, ⟨12, _⟩ => ⟨S1x1024x1024, .f32⟩
  | .hbm, ⟨13, _⟩ => ⟨S1x1024x1024, .f32⟩
  | .hbm, ⟨14, _⟩ => ⟨S8x8192x1024, .bf16⟩
  | .hbm, ⟨15, _⟩ => ⟨S8x8192x1024, .f32⟩
  | .hbm, ⟨16, _⟩ => ⟨S8x8192x1024, .bf16⟩
  | .hbm, ⟨17, _⟩ => ⟨S8x8192x1024, .f32⟩
  | .hbm, ⟨18, _⟩ => ⟨S8x8192x1024, .f32⟩
  | .hbm, ⟨19, _⟩ => ⟨S8x8192x1024, .f32⟩
  | .hbm, ⟨20, _⟩ => ⟨S1024, .f32⟩
  | .hbm, ⟨21, _⟩ => ⟨S1x1x1024, .f32⟩
  | .hbm, ⟨22, _⟩ => ⟨S8x8192x1024, .f32⟩
  | .hbm, ⟨23, _⟩ => ⟨S8x8192x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S1024x1024, .f32⟩
  | .hbm, ⟨28, _⟩ => ⟨S8x8192x1024, .f32⟩
  | .hbm, ⟨29, _⟩ => ⟨S8x8192x1024, .f32⟩
  | .hbm, ⟨30, _⟩ => ⟨S1024x1024, .f32⟩
  | .hbm, ⟨31, _⟩ => ⟨S8x8192x1024, .f32⟩
  | .hbm, ⟨32, _⟩ => ⟨S8x8192x1024, .f32⟩
  | .hbm, ⟨33, _⟩ => ⟨S8x8192x1024, .f32⟩
  | .hbm, ⟨34, _⟩ => ⟨S_, .f32⟩
  | .hbm, ⟨35, _⟩ => ⟨S8x8192x1024, .f32⟩
  | .hbm, ⟨36, _⟩ => ⟨S8x8192x1024, .f32⟩
  | .hbm, ⟨37, _⟩ => ⟨S_, .f32⟩
  | .hbm, ⟨38, _⟩ => ⟨S8x8192x1024, .f32⟩
  | .hbm, ⟨39, _⟩ => ⟨S8x8192x1024, .f32⟩
  | .hbm, ⟨40, _⟩ => ⟨S8x8192x1024, .f32⟩
  | .hbm, ⟨41, _⟩ => ⟨S8x8192x1024, .f32⟩
  | .hbm, ⟨42, _⟩ => ⟨S8x8192x1024, .f32⟩
  | .hbm, ⟨43, _⟩ => ⟨S_, .f32⟩
  | .hbm, ⟨44, _⟩ => ⟨S8x8192x1024, .f32⟩
  | .hbm, ⟨45, _⟩ => ⟨S8x8192x1024, .f32⟩
  | .hbm, ⟨46, _⟩ => ⟨S_, .f32⟩
  | .hbm, ⟨47, _⟩ => ⟨S8x8192x1024, .f32⟩
  | .hbm, ⟨48, _⟩ => ⟨S8x8192x1024, .f32⟩
  | .hbm, ⟨49, _⟩ => ⟨S8x8192x1024, .f32⟩
  | .hbm, ⟨50, _⟩ => ⟨S8x8192x1024, .f32⟩
  | .hbm, ⟨51, _⟩ => ⟨S1024x1024, .f32⟩
  | .hbm, ⟨52, _⟩ => ⟨S8x8192x1024, .f32⟩
  | .hbm, ⟨53, _⟩ => ⟨S8x8192x1024, .f32⟩
  | .hbm, ⟨54, _⟩ => ⟨S8x8192x1024, .f32⟩
  | .hbm, ⟨55, _⟩ => ⟨S8x8192x1024, .f32⟩
  | .hbm, ⟨56, _⟩ => ⟨S1024, .f32⟩
  | .hbm, ⟨57, _⟩ => ⟨S8x8192x1024, .f32⟩
  | .hbm, ⟨58, _⟩ => ⟨S_, .f32⟩
  | .hbm, ⟨59, _⟩ => ⟨S8x8192, .f32⟩
  | .hbm, ⟨60, _⟩ => ⟨S8x8192x1, .f32⟩
  | .hbm, ⟨61, _⟩ => ⟨S_, .f32⟩
  | .hbm, ⟨62, _⟩ => ⟨S8x8192x1, .f32⟩
  | .hbm, ⟨63, _⟩ => ⟨S8x8192x1, .f32⟩
  | .hbm, ⟨64, _⟩ => ⟨S_, .f32⟩
  | .hbm, ⟨65, _⟩ => ⟨S8x8192x1, .f32⟩
  | .hbm, ⟨66, _⟩ => ⟨S8x8192x1, .f32⟩
  | .hbm, ⟨67, _⟩ => ⟨S8x8192x1, .f32⟩
  | .hbm, ⟨68, _⟩ => ⟨S8x8192x1024, .f32⟩
  | .hbm, ⟨69, _⟩ => ⟨S8x8192x1024, .f32⟩
  | .hbm, ⟨70, _⟩ => ⟨S1x1x1024, .f32⟩
  | .hbm, ⟨71, _⟩ => ⟨S8x8192x1024, .f32⟩
  | .hbm, ⟨72, _⟩ => ⟨S8x8192x1024, .f32⟩
  | .hbm, ⟨73, _⟩ => ⟨S_, .f32⟩
  | .hbm, ⟨74, _⟩ => ⟨S8x1x1024, .f32⟩
  | .hbm, ⟨75, _⟩ => ⟨S8x1x1024, .f32⟩
  | .hbm, ⟨76, _⟩ => ⟨S8x8192x1024, .f32⟩
  | .hbm, ⟨77, _⟩ => ⟨S8x8192x1024, .f32⟩
  | .hbm, ⟨78, _⟩ => ⟨S8x8192x1024, .f32⟩
  | .hbm, ⟨79, _⟩ => ⟨S8x8192x1024, .f32⟩
  | .hbm, ⟨80, _⟩ => ⟨S8x8192x1024, .bf16⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_6 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel4.lean ====
abbrev S8x256x1024 : Shape := ⟨3, ![8, 256, 1024]⟩
abbrev S1x1024 : Shape := ⟨2, ![1, 1024]⟩
abbrev S1x1024x8192 : Shape := ⟨3, ![1, 1024, 8192]⟩
abbrev S1x4 : Shape := ⟨2, ![1, 4]⟩
abbrev S1024 : Shape := ⟨1, ![1024]⟩
abbrev S1024x8192 : Shape := ⟨2, ![1024, 8192]⟩
abbrev S4 : Shape := ⟨1, ![4]⟩
abbrev S4x1 : Shape := ⟨2, ![4, 1]⟩
abbrev S8x4x128x256 : Shape := ⟨4, ![8, 4, 128, 256]⟩
abbrev S1x256x1024 : Shape := ⟨3, ![1, 256, 1024]⟩
abbrev S1024x512 : Shape := ⟨2, ![1024, 512]⟩
abbrev S1024x1024 : Shape := ⟨2, ![1024, 1024]⟩
abbrev S1x4x128x256 : Shape := ⟨4, ![1, 4, 128, 256]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S256x256 : Shape := ⟨2, ![256, 256]⟩
abbrev S1x1 : Shape := ⟨2, ![1, 1]⟩
abbrev S128x256 : Shape := ⟨2, ![128, 256]⟩
abbrev S1x1x128x256 : Shape := ⟨4, ![1, 1, 128, 256]⟩

abbrev nBuf : Space → Nat
  | .hbm => 17
  | .vmem => 13
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x8192, .f32⟩
  | .hbm, ⟨5, _⟩ => ⟨S1x4, .f32⟩
  | .hbm, ⟨6, _⟩ => ⟨S1x4, .f32⟩
  | .hbm, ⟨7, _⟩ => ⟨S1024, .f32⟩
  | .hbm, ⟨8, _⟩ => ⟨S1x1024, .f32⟩
  | .hbm, ⟨9, _⟩ => ⟨S1024x8192, .f32⟩
  | .hbm, ⟨10, _⟩ => ⟨S1024x8192, .bf16⟩
  | .hbm, ⟨11, _⟩ => ⟨S4, .f32⟩
  | .hbm, ⟨12, _⟩ => ⟨S4x1, .f32⟩
  | .hbm, ⟨13, _⟩ => ⟨S4, .f32⟩
  | .hbm, ⟨14, _⟩ => ⟨S4x1, .f32⟩
  | .hbm, ⟨15, _⟩ => ⟨S8x4x128x256, .f32⟩
  | .hbm, ⟨16, _⟩ => ⟨S8x4x128x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x512, .bf16⟩
  | .local _ .vmem, ⟨6, _⟩ => ⟨S1024x1024, .bf16⟩
  | .local _ .vmem, ⟨7, _⟩ => ⟨S4x1, .f32⟩
  | .local _ .vmem, ⟨8, _⟩ => ⟨S4x1, .f32⟩
  | .local _ .vmem, ⟨9, _⟩ => ⟨S1x4x128x256, .f32⟩
  | .local _ .vmem, ⟨10, _⟩ => ⟨S1x4x128x256, .f32⟩
  | .local _ .vmem, ⟨11, _⟩ => ⟨S1x4x128x256, .f32⟩
  | .local _ .vmem, ⟨12, _⟩ => ⟨S1x4x128x256, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_5 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S8x256x1024 : Shape := ⟨3, ![8, 256, 1024]⟩
abbrev S1x1024 : Shape := ⟨2, ![1, 1024]⟩
abbrev S1x1024x8192 : Shape := ⟨3, ![1, 1024, 8192]⟩
abbrev S1x4 : Shape := ⟨2, ![1, 4]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x8192 : Shape := ⟨2, ![1024, 8192]⟩
abbrev S1024x512 : Shape := ⟨2, ![1024, 512]⟩
abbrev S8x256x512 : Shape := ⟨3, ![8, 256, 512]⟩
abbrev S1024x1024 : Shape := ⟨2, ![1024, 1024]⟩
abbrev S8x256x4x128 : Shape := ⟨4, ![8, 256, 4, 128]⟩
abbrev S8x256x4x256 : Shape := ⟨4, ![8, 256, 4, 256]⟩
abbrev S4 : Shape := ⟨1, ![4]⟩
abbrev S256 : Shape := ⟨1, ![256]⟩
abbrev S4x1 : Shape := ⟨2, ![4, 1]⟩
abbrev S1x256 : Shape := ⟨2, ![1, 256]⟩
abbrev S4x256 : Shape := ⟨2, ![4, 256]⟩
abbrev S256x4 : Shape := ⟨2, ![256, 4]⟩
abbrev S1x256x4x1 : Shape := ⟨4, ![1, 256, 4, 1]⟩
abbrev S8x4x128x256 : Shape := ⟨4, ![8, 4, 128, 256]⟩

abbrev nBuf : Space → Nat
  | .hbm => 72
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024x8192, .f32⟩
  | .hbm, ⟨5, _⟩ => ⟨S1x4, .f32⟩
  | .hbm, ⟨6, _⟩ => ⟨S1x4, .f32⟩
  | .hbm, ⟨7, _⟩ => ⟨S1024, .f32⟩
  | .hbm, ⟨8, _⟩ => ⟨S8x256x1024, .f32⟩
  | .hbm, ⟨9, _⟩ => ⟨S_, .f32⟩
  | .hbm, ⟨10, _⟩ => ⟨S8x256, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S_, .f32⟩
  | .hbm, ⟨16, _⟩ => ⟨S8x256x1, .f32⟩
  | .hbm, ⟨17, _⟩ => ⟨S8x256x1, .f32⟩
  | .hbm, ⟨18, _⟩ => ⟨S8x256x1, .f32⟩
  | .hbm, ⟨19, _⟩ => ⟨S8x256x1024, .f32⟩
  | .hbm, ⟨20, _⟩ => ⟨S8x256x1024, .f32⟩
  | .hbm, ⟨21, _⟩ => ⟨S1x1x1024, .f32⟩
  | .hbm, ⟨22, _⟩ => ⟨S8x256x1024, .f32⟩
  | .hbm, ⟨23, _⟩ => ⟨S8x256x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1x1024, .f32⟩
  | .hbm, ⟨28, _⟩ => ⟨S8x256x1024, .f32⟩
  | .hbm, ⟨29, _⟩ => ⟨S8x256x1024, .f32⟩
  | .hbm, ⟨30, _⟩ => ⟨S1x1x1024, .f32⟩
  | .hbm, ⟨31, _⟩ => ⟨S8x256x1024, .f32⟩
  | .hbm, ⟨32, _⟩ => ⟨S8x256x1024, .f32⟩
  | .hbm, ⟨33, _⟩ => ⟨S1024x8192, .f32⟩
  | .hbm, ⟨34, _⟩ => ⟨S1024x512, .f32⟩
  | .hbm, ⟨35, _⟩ => ⟨S8x256x512, .f32⟩
  | .hbm, ⟨36, _⟩ => ⟨S1024x8192, .f32⟩
  | .hbm, ⟨37, _⟩ => ⟨S1024x1024, .f32⟩
  | .hbm, ⟨38, _⟩ => ⟨S8x256x1024, .f32⟩
  | .hbm, ⟨39, _⟩ => ⟨S8x256x4x128, .f32⟩
  | .hbm, ⟨40, _⟩ => ⟨S_, .f32⟩
  | .hbm, ⟨41, _⟩ => ⟨S8x256x4x128, .f32⟩
  | .hbm, ⟨42, _⟩ => ⟨S8x256x4x128, .f32⟩
  | .hbm, ⟨43, _⟩ => ⟨S8x256x4x256, .f32⟩
  | .hbm, ⟨44, _⟩ => ⟨S4, .f32⟩
  | .hbm, ⟨45, _⟩ => ⟨S4, .f32⟩
  | .hbm, ⟨46, _⟩ => ⟨S256, .f32⟩
  | .hbm, ⟨47, _⟩ => ⟨S4x1, .f32⟩
  | .hbm, ⟨48, _⟩ => ⟨S_, .f32⟩
  | .hbm, ⟨49, _⟩ => ⟨S256, .f32⟩
  | .hbm, ⟨50, _⟩ => ⟨S256, .f32⟩
  | .hbm, ⟨51, _⟩ => ⟨S1x256, .f32⟩
  | .hbm, ⟨52, _⟩ => ⟨S4x256, .f32⟩
  | .hbm, ⟨53, _⟩ => ⟨S4x256, .f32⟩
  | .hbm, ⟨54, _⟩ => ⟨S4x256, .f32⟩
  | .hbm, ⟨55, _⟩ => ⟨S4x256, .f32⟩
  | .hbm, ⟨56, _⟩ => ⟨S4x1, .f32⟩
  | .hbm, ⟨57, _⟩ => ⟨S1x256, .f32⟩
  | .hbm, ⟨58, _⟩ => ⟨S4x256, .f32⟩
  | .hbm, ⟨59, _⟩ => ⟨S4x256, .f32⟩
  | .hbm, ⟨60, _⟩ => ⟨S4x256, .f32⟩
  | .hbm, ⟨61, _⟩ => ⟨S4x256, .f32⟩
  | .hbm, ⟨62, _⟩ => ⟨S256x4, .f32⟩
  | .hbm, ⟨63, _⟩ => ⟨S1x256x4x1, .f32⟩
  | .hbm, ⟨64, _⟩ => ⟨S8x256x4x128, .f32⟩
  | .hbm, ⟨65, _⟩ => ⟨S8x256x4x128, .f32⟩
  | .hbm, ⟨66, _⟩ => ⟨S8x4x128x256, .f32⟩
  | .hbm, ⟨67, _⟩ => ⟨S256x4, .f32⟩
  | .hbm, ⟨68, _⟩ => ⟨S1x256x4x1, .f32⟩
  | .hbm, ⟨69, _⟩ => ⟨S8x256x4x128, .f32⟩
  | .hbm, ⟨70, _⟩ => ⟨S8x256x4x128, .f32⟩
  | .hbm, ⟨71, _⟩ => ⟨S8x4x128x256, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== Kernel5.lean ====
abbrev S8x8192x8192 : Shape := ⟨3, ![8, 8192, 8192]⟩
abbrev S1x3x3072 : Shape := ⟨3, ![1, 3, 3072]⟩
abbrev S1x3072 : Shape := ⟨2, ![1, 3072]⟩
abbrev S3x3072 : Shape := ⟨2, ![3, 3072]⟩
abbrev S3072 : Shape := ⟨1, ![3072]⟩
abbrev S8x8192x1024 : Shape := ⟨3, ![8, 8192, 1024]⟩
abbrev S1x1024x3072 : Shape := ⟨3, ![1, 1024, 3072]⟩
abbrev S1x16x3072 : Shape := ⟨3, ![1, 16, 3072]⟩
abbrev S1x1024x1024 : Shape := ⟨3, ![1, 1024, 1024]⟩
abbrev S1024x256 : Shape := ⟨2, ![1024, 256]⟩
abbrev S1x1024x256 : Shape := ⟨3, ![1, 1024, 256]⟩
abbrev S1x16x256 : Shape := ⟨3, ![1, 16, 256]⟩
abbrev S16x256 : Shape := ⟨2, ![16, 256]⟩
abbrev S1x256 : Shape := ⟨2, ![1, 256]⟩
abbrev S3x256 : Shape := ⟨2, ![3, 256]⟩

abbrev nBuf : Space → Nat
  | .hbm => 8
  | .vmem => 12
  | .smem => 0
  | _ => 0

abbrev bufTy : (tb : Table) → Fin (tcTables nBuf tb) → BufTy
  | .hbm, ⟨0, _⟩ => ⟨S8x8192x8192, .bf16⟩
  | .hbm, ⟨1, _⟩ => ⟨S1x3x3072, .f32⟩
  | .hbm, ⟨2, _⟩ => ⟨S1x3072, .f32⟩
  | .hbm, ⟨3, _⟩ => ⟨S3x3072, .f32⟩
  | .hbm, ⟨4, _⟩ => ⟨S3072, .f32⟩
  | .hbm, ⟨5, _⟩ => ⟨S1x3072, .f32⟩
  | .hbm, ⟨6, _⟩ => ⟨S8x8192x1024, .bf16⟩
  | .hbm, ⟨7, _⟩ => ⟨S8x8192x1024, .bf16⟩
  | .local _ .vmem, ⟨0, _⟩ => ⟨S1x1024x3072, .bf16⟩
  | .local _ .vmem, ⟨1, _⟩ => ⟨S1x1024x3072, .bf16⟩
  | .local _ .vmem, ⟨2, _⟩ => ⟨S1x16x3072, .bf16⟩
  | .local _ .vmem, ⟨3, _⟩ => ⟨S1x16x3072, .bf16⟩
  | .local _ .vmem, ⟨4, _⟩ => ⟨S1x16x3072, .bf16⟩
  | .local _ .vmem, ⟨5, _⟩ => ⟨S1x16x3072, .bf16⟩
  | .local _ .vmem, ⟨6, _⟩ => ⟨S3x3072, .f32⟩
  | .local _ .vmem, ⟨7, _⟩ => ⟨S1x3072, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | _, _ => ⟨S8x8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8x8192x8192 : Shape := ⟨3, ![8, 8192, 8192]⟩
abbrev S1x3x3072 : Shape := ⟨3, ![1, 3, 3072]⟩
abbrev S1x3072 : Shape := ⟨2, ![1, 3072]⟩
abbrev S8x8192x3072 : Shape := ⟨3, ![8, 8192, 3072]⟩
abbrev S3x3072 : Shape := ⟨2, ![3, 3072]⟩
abbrev S3072 : Shape := ⟨1, ![3072]⟩
abbrev S_ : Shape := ⟨0, ![]⟩
abbrev S8x8194x3072 : Shape := ⟨3, ![8, 8194, 3072]⟩
abbrev S1x1x3072 : Shape := ⟨3, ![1, 1, 3072]⟩
abbrev S8x8192x1024 : Shape := ⟨3, ![8, 8192, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x8192x8192, .bf16⟩
  | .hbm, ⟨1, _⟩ => ⟨S1x3x3072, .f32⟩
  | .hbm, ⟨2, _⟩ => ⟨S1x3072, .f32⟩
  | .hbm, ⟨3, _⟩ => ⟨S8x8192x3072, .bf16⟩
  | .hbm, ⟨4, _⟩ => ⟨S8x8192x3072, .f32⟩
  | .hbm, ⟨5, _⟩ => ⟨S3x3072, .f32⟩
  | .hbm, ⟨6, _⟩ => ⟨S3072, .f32⟩
  | .hbm, ⟨7, _⟩ => ⟨S_, .i32⟩
  | .hbm, ⟨8, _⟩ => ⟨S_, .f32⟩
  | .hbm, ⟨9, _⟩ => ⟨S8x8194x3072, .f32⟩
  | .hbm, ⟨10, _⟩ => ⟨S8x8192x3072, .f32⟩
  | .hbm, ⟨11, _⟩ => ⟨S1x3072, .f32⟩
  | .hbm, ⟨12, _⟩ => ⟨S3072, .f32⟩
  | .hbm, ⟨13, _⟩ => ⟨S1x1x3072, .f32⟩
  | .hbm, ⟨14, _⟩ => ⟨S8x8192x3072, .f32⟩
  | .hbm, ⟨15, _⟩ => ⟨S8x8192x3072, .f32⟩
  | .hbm, ⟨16, _⟩ => ⟨S8x8192x3072, .f32⟩
  | .hbm, ⟨17, _⟩ => ⟨S1x3072, .f32⟩
  | .hbm, ⟨18, _⟩ => ⟨S3072, .f32⟩
  | .hbm, ⟨19, _⟩ => ⟨S1x1x3072, .f32⟩
  | .hbm, ⟨20, _⟩ => ⟨S8x8192x3072, .f32⟩
  | .hbm, ⟨21, _⟩ => ⟨S8x8192x3072, .f32⟩
  | .hbm, ⟨22, _⟩ => ⟨S8x8192x3072, .f32⟩
  | .hbm, ⟨23, _⟩ => ⟨S8x8192x3072, .f32⟩
  | .hbm, ⟨24, _⟩ => ⟨S1x3072, .f32⟩
  | .hbm, ⟨25, _⟩ => ⟨S3072, .f32⟩
  | .hbm, ⟨26, _⟩ => ⟨S1x1x3072, .f32⟩
  | .hbm, ⟨27, _⟩ => ⟨S8x8192x3072, .f32⟩
  | .hbm, ⟨28, _⟩ => ⟨S8x8192x3072, .f32⟩
  | .hbm, ⟨29, _⟩ => ⟨S8x8192x3072, .f32⟩
  | .hbm, ⟨30, _⟩ => ⟨S1x1x3072, .f32⟩
  | .hbm, ⟨31, _⟩ => ⟨S8x8192x3072, .f32⟩
  | .hbm, ⟨32, _⟩ => ⟨S8x8192x3072, .f32⟩
  | .hbm, ⟨33, _⟩ => ⟨S8x8192x1024, .f32⟩
  | .hbm, ⟨34, _⟩ => ⟨S8x8192x1024, .f32⟩
  | .hbm, ⟨35, _⟩ => ⟨S8x8192x1024, .f32⟩
  | .hbm, ⟨36, _⟩ => ⟨S8x8192x1024, .f32⟩
  | .hbm, ⟨37, _⟩ => ⟨S8x8192x1024, .bf16⟩
  | .hbm, ⟨38, _⟩ => ⟨S8x8192x1024, .bf16⟩
  | _, _ => ⟨S8x8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]
-- ==== Proof.InProj.lean ====
/-
  The fused input projection: what the call's result array holds after the run, as one formula over the argument arrays,
  and that the plain reference computes the same formula. Nothing here needs the arguments to be finite: the two
  programs apply the same operations in the same order and differ only in how they cut the rows and columns.
-/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 200000

noncomputable section

namespace Cert.InProj

open Idealize.ShloMosaic Idealize.ShloMosaic.TcCoe Idealize.SL.Sem
open Idealize.ShloMosaic.Pipeline (Dat)

/-- One row of the normalised and modulated input at feature `k`: the row over its root mean square, times the gain,
    times one plus the scale, plus the shift. -/
def modRow (x : FVec Ideal ⟨3, ![8, 8192, 1024]⟩ .f32) (sh sc : FVec Ideal ⟨3, ![8, 1, 1024]⟩ .f32)
    (g : FVec Ideal ⟨2, ![1, 1024]⟩ .f32) (b : Fin 8) (l : Fin 8192) (k : Fin 1024) : EReal :=
  x (ix3 b l k) * Ideal.rsqrt (Ideal.div (∑ j : Fin 1024, x (ix3 b l j) * x (ix3 b l j)) (Ideal.ofBits .f32 0x44800000#32)
      + Ideal.ofBits .f32 0x358637BD#32) * g (ix2 0 k) * (1 + sc (ix3 b 0 k)) + sh (ix3 b 0 k)

/-- The projection: the modulated row against column `n` of the weights. -/
def proj (x : FVec Ideal ⟨3, ![8, 8192, 1024]⟩ .f32) (sh sc : FVec Ideal ⟨3, ![8, 1, 1024]⟩ .f32)
    (g : FVec Ideal ⟨2, ![1, 1024]⟩ .f32) (w : FVec Ideal ⟨3, ![1, 1024, 8192]⟩ .f32) :
    FVec Ideal ⟨3, ![8, 8192, 8192]⟩ .bf16 :=
  fun i => ∑ k : Fin 1024, modRow x sh sc g (i 0) (i 1) k * w (ix3 0 k (i 2))

section Kernel

open Cert.Kernel2Ideal Cert.Kernel2Ideal.Gen

variable (m : (ℓ : Loc nD τ sig) → Buf (Elt Ideal) ℓ) (ρ : Dev nD → PrngReg)

theorem idx : ∀ t : Fin cfg0.N, win0_0.index t = ![(grid0.coords t 0).val, (grid0.coords t 1).val, 0]
    ∧ win0_1.index t = ![(grid0.coords t 0).val, 0, 0] ∧ win0_2.index t = ![(grid0.coords t 0).val, 0, 0]
    ∧ win0_3.index t = ![0, 0] ∧ win0_4.index t = ![0, 0]
    ∧ win0_5.index t = ![(grid0.coords t 0).val, (grid0.coords t 1).val, 0] :=
  (by decide +kernel : ∀ t : Fin grid0.N, _)

theorem final (c : Dev nD) : (dats m 0 c).arrAt 5 cfg0.N
    = proj (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  frame_out
  canon_tiles x h
  all_goals
    pointwise [k0_pay1, k0_pay2, k0_pay3, k0_pay4, k0_pay5, k0_pay6, k0_pay7, k0_pay8, k0_pay9, k0_pay10, k0_pay11, proj, modRow]
    blk_point [iblk, V, idx t]

end Kernel

section Reference

open Cert.Reference2Ideal

open Cert.Reference2Ideal.Gen

/-- The reference's composed operations, over its arguments. -/
def refTerm (a0 : FVec Ideal S8x8192x1024 .f32) (a1 a2 : FVec Ideal S8x1x1024 .f32) (a3 : FVec Ideal S1x1024 .f32)
    (a4 : FVec Ideal S1x1024x8192 .f32) : FVec Ideal S8x8192x8192 .bf16 :=
  truncf .bf16 (Host.dotGeneral dot_S8x8192x1024_S1024x8192_S8x8192x8192_2_0_01_1_n_n none (addf (mulf (mulf (mulf a0 (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf a0 a0) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 (shapeCast S1024 a3 shapeCasts_S1x1024_S1024)))) (broadcastInDim S8x8192x1024 ![0, 1, 2] bcast_S8x1x1024_S8x8192x1024_0_1_2 (addf (broadcastInDim S8x1x1024 ![] bcast_S_S8x1x1024 (constant S_ .f32 0x3F800000#32)) a2))) (broadcastInDim S8x8192x1024 ![0, 1, 2] bcast_S8x1x1024_S8x8192x1024_0_1_2 a1)) (shapeCast S1024x8192 a4 shapeCasts_S1x1024x8192_S1024x8192)) bitsLt_bf16_f32

theorem refTerm_eq (a0 : FVec Ideal S8x8192x1024 .f32) (a1 a2 : FVec Ideal S8x1x1024 .f32) (a3 : FVec Ideal S1x1024 .f32)
    (a4 : FVec Ideal S1x1024x8192 .f32) : refTerm a0 a1 a2 a3 a4 = proj a0 a1 a2 a3 a4 := by
  funext i
  idx_vars i
  pointwise [refTerm, proj, modRow]

end Reference

/-- `Cert.algebraic_Kernel2Ideal_Reference2Ideal`: both result arrays are `proj` of arguments that agree. -/
theorem algebraic : Cert.algebraic_Kernel2Ideal_Reference2Ideal := by
  intro m ρ m' ρ' _ hagree
  refine ⟨fun c => (Cert.Kernel2Ideal.Gen.dats m 0 c).arrAt 5 Cert.Kernel2Ideal.cfg0.N, Cert.Kernel2Ideal.Value.run_blocks m ρ, ?_⟩
  refine (θ_run Cert.Reference2Ideal.defs _ _).mono (fun r h c => ⟨((h c).1).trans ?_, (h c).2⟩) (Cert.Reference2Ideal.Value.run (F := Ideal) m' ρ')
  rw [(hagree c).1, (hagree c).2.1, (hagree c).2.2.1, (hagree c).2.2.2.1, (hagree c).2.2.2.2]
  exact (refTerm_eq _ _ _ _ _).trans (final m c).symm

end Cert.InProj
end
-- ==== Proof.Merge.lean ====
/-
  The merge of the two mixing branches: what the call's two result arrays hold after the run, as formulas over the
  argument arrays, and that the plain reference computes the same formulas. Nothing here needs the arguments to be
  finite: the two programs apply the same operations in the same order and differ only in how they cut the rows.
-/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 200000

noncomputable section

namespace Cert.Merge

open Idealize.ShloMosaic Idealize.ShloMosaic.TcCoe Idealize.SL.Sem
open Idealize.ShloMosaic.Pipeline (Dat)

/-- The arrays of the merge, by shape. -/
abbrev Tok (φ : FTy) := FVec Ideal ⟨3, ![8, 8192, 1024]⟩ φ
abbrev Vec1 := FVec Ideal ⟨3, ![8, 1, 1024]⟩ .f32
abbrev Row := FVec Ideal ⟨2, ![1, 1024]⟩ .f32
abbrev Mat := FVec Ideal ⟨3, ![1, 1024, 1024]⟩ .f32

variable (y u x0 r : Tok .bf16) (p : FVec Ideal ⟨3, ![8, 8192, 8192]⟩ .bf16) (x : Tok .f32) (g1 sh2 sc2 : Vec1) (n2 hb : Row)
  (wh wr wo : Mat)

/-- The logistic function as both programs spell it. -/
def gate (a : EReal) : EReal := Ideal.div 1 (1 + Ideal.exp (-a))

/-- The two branches' outputs gated and added: the convolution branch with its skip term and multiplicative gate through
    its projection, the retention branch through its own. -/
def mixed (b : Fin 8) (l : Fin 8192) (k : Fin 1024) : EReal :=
  gate (p (ix3 b l ⟨6144 + k.val, by omega⟩))
      * (∑ j : Fin 1024, (y (ix3 b l j) + u (ix3 b l j) * hb (ix2 0 j)) * x0 (ix3 b l j) * wh (ix3 0 j k))
    + gate (p (ix3 b l ⟨7168 + k.val, by omega⟩)) * (∑ j : Fin 1024, r (ix3 b l j) * wr (ix3 0 j k))

/-- The residual stream after the mixing: the input plus the gated output projection. -/
def stream (b : Fin 8) (l : Fin 8192) (n : Fin 1024) : EReal :=
  x (ix3 b l n) + g1 (ix3 b 0 n) * ∑ k : Fin 1024, mixed y u x0 r p hb wh wr b l k * wo (ix3 0 k n)

/-- The first result: the residual stream. -/
def outX : Tok .f32 := fun i => stream y u x0 r p x g1 hb wh wr wo (i 0) (i 1) (i 2)

/-- The second result: the residual stream normalised and modulated. -/
def outH : Tok .bf16 := fun i =>
  stream y u x0 r p x g1 hb wh wr wo (i 0) (i 1) (i 2)
      * Ideal.rsqrt (Ideal.div (∑ j : Fin 1024, stream y u x0 r p x g1 hb wh wr wo (i 0) (i 1) j * stream y u x0 r p x g1 hb wh wr wo (i 0) (i 1) j)
          (Ideal.ofBits .f32 0x44800000#32) + Ideal.ofBits .f32 0x358637BD#32)
      * n2 (ix2 0 (i 2)) * (1 + sc2 (ix3 (i 0) 0 (i 2))) + sh2 (ix3 (i 0) 0 (i 2))

section Kernel

open Cert.Kernel3Ideal Cert.Kernel3Ideal.Gen

variable (m : (ℓ : Loc nD τ sig) → Buf (Elt Ideal) ℓ) (ρ : Dev nD → PrngReg)

/-- Where each window's block lies, at every grid point. -/
theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 6]
    ∧ win0_5.index t = ![(grid0.coords t 0).val, (grid0.coords t 1).val, 7]
    ∧ win0_6.index t = ![(grid0.coords t 0).val, (grid0.coords t 1).val, 0]
    ∧ win0_7.index t = ![(grid0.coords t 0).val, 0, 0] ∧ win0_8.index t = ![(grid0.coords t 0).val, 0, 0]
    ∧ win0_9.index t = ![(grid0.coords t 0).val, 0, 0]
    ∧ win0_10.index t = ![0, 0] ∧ win0_11.index t = ![0, 0] ∧ win0_12.index t = ![0, 0] ∧ win0_13.index t = ![0, 0]
    ∧ win0_14.index t = ![0, 0]
    ∧ win0_15.index t = ![(grid0.coords t 0).val, (grid0.coords t 1).val, 0]
    ∧ win0_16.index t = ![(grid0.coords t 0).val, (grid0.coords t 1).val, 0] :=
  (by decide +kernel : ∀ t : Fin grid0.N, _)

theorem final15 (c : Dev nD) : (dats m 0 c).arrAt 15 cfg0.N
    = outX (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg10)) (m ((c : Thread nD τ).loc main_arg11))
        (m ((c : Thread nD τ).loc main_arg12)) (m ((c : Thread nD τ).loc main_arg13)) := by
  refine (dats m 0 c).arrAt_eq_of_covers 15 _ (by decide +kernel) fun t hf y => ?_
  blk_simp
  rw [after0_15]
  frame_out
  pointwise [k0_pay2, k0_pay3, k0_pay4, k0_pay5, k0_pay6, k0_pay9, k0_pay10, k0_pay11, outX, stream, mixed, gate, zero_sub]
  blk_point [iblk, V, idx t]

theorem final16 (c : Dev nD) : (dats m 0 c).arrAt 16 cfg0.N
    = outH (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) := by
  refine (dats m 0 c).arrAt_eq_of_covers 16 _ (by decide +kernel) fun t hf y => ?_
  blk_simp
  rw [after0_16]
  frame_out
  pointwise [k0_pay1, k0_pay2, k0_pay3, k0_pay4, k0_pay5, k0_pay7, k0_pay8, k0_pay9, k0_pay10, k0_pay11, outH, stream, mixed, gate, zero_sub]
  blk_point [iblk, V, idx t]

end Kernel

section Reference

open Cert.Reference3Ideal Cert.Reference3Ideal.Gen

variable (a0 a1 a2 a3 : FVec Ideal S8x8192x1024 .bf16) (a4 : FVec Ideal S8x8192x8192 .bf16) (a5 : FVec Ideal S8x8192x1024 .f32)
  (a6 a7 a8 : FVec Ideal S8x1x1024 .f32) (a9 a10 : FVec Ideal S1x1024 .f32) (a11 a12 a13 : FVec Ideal S1x1024x1024 .f32)

/-- The reference's composed operations for the first result, over its arguments. -/
def refX : FVec Ideal S8x8192x1024 .f32 :=
  addf a5 (mulf (broadcastInDim S8x8192x1024 ![0, 1, 2] bcast_S8x1x1024_S8x8192x1024_0_1_2 a6) (Host.dotGeneral
    dot_S8x8192x1024_S1024x1024_S8x8192x1024_2_0_01_1_n_n none (addf (mulf (Host.divf (broadcastInDim
    S8x8192x1024 ![] bcast_S_S8x8192x1024 (constant S_ .f32 0x3F800000#32)) (addf (broadcastInDim S8x8192x1024
    ![] bcast_S_S8x8192x1024 (constant S_ .f32 0x3F800000#32)) (Host.exp (Host.negf (extf .f32
    (extractStridedSlice S8x8192x1024 ![0, 0, 6144] a4 slices_S8x8192x8192_S8x8192x1024_0_0_6144)
    bitsLt_bf16_f32))))) (Host.dotGeneral dot_S8x8192x1024_S1024x1024_S8x8192x1024_2_0_01_1_n_n none (mulf (addf
    (extf .f32 a0 bitsLt_bf16_f32) (mulf (extf .f32 a1 bitsLt_bf16_f32) (broadcastInDim S8x8192x1024 ![0, 1, 2]
    bcast_S1x1x1024_S8x8192x1024_0_1_2 (broadcastInDim S1x1x1024 ![2] bcast_S1024_S1x1x1024_2 (shapeCast S1024
    a10 shapeCasts_S1x1024_S1024))))) (extf .f32 a2 bitsLt_bf16_f32)) (shapeCast S1024x1024 a11
    shapeCasts_S1x1024x1024_S1024x1024))) (mulf (Host.divf (broadcastInDim S8x8192x1024 ![] bcast_S_S8x8192x1024
    (constant S_ .f32 0x3F800000#32)) (addf (broadcastInDim S8x8192x1024 ![] bcast_S_S8x8192x1024 (constant S_
    .f32 0x3F800000#32)) (Host.exp (Host.negf (extf .f32 (extractStridedSlice S8x8192x1024 ![0, 0, 7168] a4
    slices_S8x8192x8192_S8x8192x1024_0_0_7168) bitsLt_bf16_f32))))) (Host.dotGeneral
    dot_S8x8192x1024_S1024x1024_S8x8192x1024_2_0_01_1_n_n none (extf .f32 a3 bitsLt_bf16_f32) (shapeCast
    S1024x1024 a12 shapeCasts_S1x1024x1024_S1024x1024)))) (shapeCast S1024x1024 a13
    shapeCasts_S1x1024x1024_S1024x1024)))

/-- The reference's composed operations for the second result, over its arguments. -/
def refH : FVec Ideal S8x8192x1024 .bf16 :=
  truncf .bf16 (addf (mulf (mulf (mulf (refX a0 a1 a2 a3 a4 a5 a6 a10 a11 a12 a13) (broadcastInDim S8x8192x1024
    ![0, 1, 2] bcast_S8x8192x1_S8x8192x1024_0_1_2 (Host.rsqrt (addf (Host.divf (broadcastInDim S8x8192x1 ![0, 1]
    bcast_S8x8192_S8x8192x1_0_1 (Host.reduceAdd (mulf (refX a0 a1 a2 a3 a4 a5 a6 a10 a11 a12 a13) (refX a0 a1 a2
    a3 a4 a5 a6 a10 a11 a12 a13)) (constant S_ .f32 0x00000000#32) reducesTo_S8x8192x1024_S8x8192_d2 h_S_))
    (broadcastInDim S8x8192x1 ![] bcast_S_S8x8192x1 (constant S_ .f32 0x44800000#32))) (broadcastInDim S8x8192x1
    ![] bcast_S_S8x8192x1 (constant S_ .f32 0x358637BD#32)))))) (broadcastInDim S8x8192x1024 ![0, 1, 2]
    bcast_S1x1x1024_S8x8192x1024_0_1_2 (broadcastInDim S1x1x1024 ![2] bcast_S1024_S1x1x1024_2 (shapeCast S1024
    a9 shapeCasts_S1x1024_S1024)))) (broadcastInDim S8x8192x1024 ![0, 1, 2] bcast_S8x1x1024_S8x8192x1024_0_1_2
    (addf (broadcastInDim S8x1x1024 ![] bcast_S_S8x1x1024 (constant S_ .f32 0x3F800000#32)) a8)))
    (broadcastInDim S8x8192x1024 ![0, 1, 2] bcast_S8x1x1024_S8x8192x1024_0_1_2 a7)) bitsLt_bf16_f32

theorem refX_eq : refX a0 a1 a2 a3 a4 a5 a6 a10 a11 a12 a13 = outX a0 a1 a2 a3 a4 a5 a6 a10 a11 a12 a13 := by
  funext i
  idx_vars i
  pointwise [refX, outX, stream, mixed, gate]

theorem res_eq (m : (ℓ : Loc nD τ sig) → Buf (Elt Ideal) ℓ) (c : Dev nD) : Cert.Reference3Ideal.Value.res_main_v58 m c
    = refH (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) := by
  unfold Cert.Reference3Ideal.Value.res_main_v58 refH refX
  rfl

theorem refX_at (b : Fin 8) (l : Fin 8192) (n : Fin 1024) :
    refX a0 a1 a2 a3 a4 a5 a6 a10 a11 a12 a13 (ix3 b l n) = stream a0 a1 a2 a3 a4 a5 a6 a10 a11 a12 a13 b l n :=
  congrFun (refX_eq a0 a1 a2 a3 a4 a5 a6 a10 a11 a12 a13) (ix3 b l n)

theorem refH_eq : refH a0 a1 a2 a3 a4 a5 a6 a7 a8 a9 a10 a11 a12 a13 = outH a0 a1 a2 a3 a4 a5 a6 a7 a8 a9 a10 a11 a12 a13 := by
  funext i
  idx_vars i
  pointwise [refH, outH, refX_at]

end Reference

/-- `Cert.algebraic_Kernel3Ideal_Reference3Ideal`: the two result arrays of each program are `outX` and `outH` of arguments
    that agree. -/
theorem algebraic : Cert.algebraic_Kernel3Ideal_Reference3Ideal := by
  intro m ρ m' ρ' _ hagree
  refine ⟨fun c => (Cert.Kernel3Ideal.Gen.dats m 0 c).arrAt 15 Cert.Kernel3Ideal.cfg0.N,
    fun c => (Cert.Kernel3Ideal.Gen.dats m 0 c).arrAt 16 Cert.Kernel3Ideal.cfg0.N, Cert.Kernel3Ideal.Value.run_blocks m ρ, ?_⟩
  refine (θ_run Cert.Reference3Ideal.defs _ _).mono (fun r h c => ⟨((h c).1).trans ?_, ((h c).2.1).trans ?_, (h c).2.2⟩)
    (Cert.Reference3Ideal.Value.run (F := Ideal) m' ρ')
  · obtain ⟨h0, h1, h2, h3, h4, h5, h6, h7, h8, h9, h10, h11, h12, h13⟩ := hagree c
    rw [h0, h1, h2, h3, h4, h5, h6, h10, h11, h12, h13]
    exact (refX_eq _ _ _ _ _ _ _ _ _ _ _).trans (final15 m c).symm
  · obtain ⟨h0, h1, h2, h3, h4, h5, h6, h7, h8, h9, h10, h11, h12, h13⟩ := hagree c
    rw [res_eq, h0, h1, h2, h3, h4, h5, h6, h7, h8, h9, h10, h11, h12, h13]
    exact (refH_eq _ _ _ _ _ _ _ _ _ _ _ _ _ _).trans (final16 m c).symm

end Cert.Merge
end
-- ==== Proof.Ctx.lean ====
/-
  The context's retention states: what the call's two result arrays hold after the run, as formulas over the argument
  arrays, and that the plain reference computes the same formulas. Nothing here needs the arguments to be finite.
-/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 200000

noncomputable section

namespace Cert.Ctx

open Idealize.ShloMosaic Idealize.ShloMosaic.TcCoe Idealize.SL.Sem
open Idealize.ShloMosaic.Pipeline (Dat)

variable (x : FVec Ideal ⟨3, ![8, 256, 1024]⟩ .f32) (sh sc g : FVec Ideal ⟨2, ![1, 1024]⟩ .f32)
  (w : FVec Ideal ⟨3, ![1, 1024, 8192]⟩ .f32) (lf lb : FVec Ideal ⟨2, ![1, 4]⟩ .f32)

/-- One row of the normalised and modulated context at feature `k`. -/
def modRow (b : Fin 8) (l : Fin 256) (k : Fin 1024) : EReal :=
  x (ix3 b l k) * Ideal.rsqrt (Ideal.div (∑ j : Fin 1024, x (ix3 b l j) * x (ix3 b l j)) (Ideal.ofBits .f32 0x44800000#32)
      + Ideal.ofBits .f32 0x358637BD#32) * g (ix2 0 k) * (1 + sc (ix2 0 k)) + sh (ix2 0 k)

/-- The scaled key of head `h` at position `l`, coordinate `d`. -/
def key (b : Fin 8) (l : Fin 256) (h : Fin 4) (d : Fin 128) : EReal :=
  (∑ k : Fin 1024, modRow x sh sc g b l k * w (ix3 0 k ⟨3584 + (h.val * 128 + d.val), by omega⟩)) * Ideal.ofBits .f32 0x3DB504F3#32

/-- The value of head `h` at position `l`, coordinate `v`. -/
def val (b : Fin 8) (l : Fin 256) (h : Fin 4) (v : Fin 256) : EReal :=
  ∑ k : Fin 1024, modRow x sh sc g b l k * w (ix3 0 k ⟨4096 + (h.val * 256 + v.val), by omega⟩)

/-- A position as a number. -/
def pos (l : Fin 256) : EReal := FloatOps.sitofp (F := Ideal) .f32 (BitVec.ofNat 32 l.val)

/-- The state the context leaves to the forward recurrence: position `l` decayed over the positions after it. -/
def stateF : FVec Ideal ⟨4, ![8, 4, 128, 256]⟩ .f32 := fun i =>
  ∑ l : Fin 256, key x sh sc g w (i 0) l (i 1) (i 2)
      * Ideal.exp (lf (ix2 0 (i 1)) * (Ideal.ofBits .f32 0x437F0000#32 - pos l)) * val x sh sc g w (i 0) l (i 1) (i 3)

/-- The state it leaves to the backward recurrence: position `l` decayed over the positions before it. -/
def stateB : FVec Ideal ⟨4, ![8, 4, 128, 256]⟩ .f32 := fun i =>
  ∑ l : Fin 256, key x sh sc g w (i 0) l (i 1) (i 2)
      * Ideal.exp (lb (ix2 0 (i 1)) * pos l) * val x sh sc g w (i 0) l (i 1) (i 3)

section Kernel

open Cert.Kernel4Ideal Cert.Kernel4Ideal.Gen

variable (m : (ℓ : Loc nD τ sig) → Buf (Elt Ideal) ℓ) (ρ : Dev nD → PrngReg)

theorem idx : ∀ t : Fin cfg0.N, win0_0.index t = ![(grid0.coords t 0).val, 0, 0]
    ∧ win0_1.index t = ![0, 0] ∧ win0_2.index t = ![0, 0] ∧ win0_3.index t = ![0, 0]
    ∧ win0_4.index t = ![0, 7] ∧ win0_5.index t = ![0, 4] ∧ win0_6.index t = ![0, 0] ∧ win0_7.index t = ![0, 0]
    ∧ win0_8.index t = ![(grid0.coords t 0).val, 0, 0, 0] ∧ win0_9.index t = ![(grid0.coords t 0).val, 0, 0, 0] :=
  (by decide +kernel : ∀ t : Fin grid0.N, _)

theorem final8 (c : Dev nD) : (dats m 0 c).arrAt 8 cfg0.N
    = stateF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  frame_out
  canon_tiles x h
  all_goals
    pointwise [k0_pay1, k0_pay2, k0_pay3, k0_pay4, k0_pay5, k0_pay6, k0_pay7, k0_pay9, k0_pay10, k0_pay11, k0_pay13, k0_pay15,
      k0_pay16, k0_pay17, k0_pay20, k0_pay21, k0_pay22, k0_pay24, k0_pay25, k0_pay26, k0_pay27, k0_pay28, k0_pay29, k0_pay30,
      stateF, key, val, modRow, pos]
    blk_point [iblk, V, idx t]

theorem final9 (c : Dev nD) : (dats m 0 c).arrAt 9 cfg0.N
    = stateB (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg6)) := by
  refine (dats m 0 c).arrAt_eq_of_covers 9 _ (by decide +kernel) fun t hf y => ?_
  blk_simp
  rw [after0_9]
  frame_out
  canon_tiles x h
  all_goals
    pointwise [k0_pay1, k0_pay2, k0_pay3, k0_pay4, k0_pay5, k0_pay6, k0_pay8, k0_pay9, k0_pay10, k0_pay12, k0_pay14, k0_pay15,
      k0_pay16, k0_pay18, k0_pay19, k0_pay20, k0_pay21, k0_pay23, k0_pay24, k0_pay25, k0_pay26, k0_pay27, k0_pay28, k0_pay29,
      k0_pay30, stateB, key, val, modRow, pos]
    blk_point [iblk, V, idx t]

end Kernel

section Reference

open Cert.Reference4Ideal Cert.Reference4Ideal.Gen

variable (a0 : FVec Ideal S8x256x1024 .f32) (a1 a2 a3 : FVec Ideal S1x1024 .f32) (a4 : FVec Ideal S1x1024x8192 .f32)
  (a5 a6 : FVec Ideal S1x4 .f32)

/-- The reference's composed operations for the first result, over its arguments. -/
def refF : FVec Ideal S8x4x128x256 .f32 :=
  Host.dotGeneral dot_S8x256x4x128_S8x256x4x256_S8x4x128x256_1_1_3_3_02_02 none (mulf (mulf (shapeCast
    S8x256x4x128 (Host.dotGeneral dot_S8x256x1024_S1024x512_S8x256x512_2_0_01_1_n_n none (addf (mulf (mulf (mulf
    a0 (broadcastInDim S8x256x1024 ![0, 1, 2] bcast_S8x256x1_S8x256x1024_0_1_2 (Host.rsqrt (addf (Host.divf
    (broadcastInDim S8x256x1 ![0, 1] bcast_S8x256_S8x256x1_0_1 (Host.reduceAdd (mulf a0 a0) (constant S_ .f32
    0x00000000#32) reducesTo_S8x256x1024_S8x256_d2 h_S_)) (broadcastInDim S8x256x1 ![] bcast_S_S8x256x1
    (constant S_ .f32 0x44800000#32))) (broadcastInDim S8x256x1 ![] bcast_S_S8x256x1 (constant S_ .f32
    0x358637BD#32)))))) (broadcastInDim S8x256x1024 ![0, 1, 2] bcast_S1x1x1024_S8x256x1024_0_1_2 (broadcastInDim
    S1x1x1024 ![2] bcast_S1024_S1x1x1024_2 (shapeCast S1024 a3 shapeCasts_S1x1024_S1024)))) (broadcastInDim
    S8x256x1024 ![0, 1, 2] bcast_S1x1x1024_S8x256x1024_0_1_2 (broadcastInDim S1x1x1024 ![1, 2]
    bcast_S1x1024_S1x1x1024_1_2 (addf (broadcastInDim S1x1024 ![] bcast_S_S1x1024 (constant S_ .f32
    0x3F800000#32)) a2)))) (broadcastInDim S8x256x1024 ![0, 1, 2] bcast_S1x1x1024_S8x256x1024_0_1_2
    (broadcastInDim S1x1x1024 ![1, 2] bcast_S1x1024_S1x1x1024_1_2 a1))) (extractStridedSlice S1024x512 ![0,
    3584] (shapeCast S1024x8192 a4 shapeCasts_S1x1024x8192_S1024x8192) slices_S1024x8192_S1024x512_0_3584))
    shapeCasts_S8x256x512_S8x256x4x128) (broadcastInDim S8x256x4x128 ![] bcast_S_S8x256x4x128 (constant S_ .f32
    0x3DB504F3#32))) (broadcastInDim S8x256x4x128 ![0, 1, 2, 3] bcast_S1x256x4x1_S8x256x4x128_0_1_2_3
    (broadcastInDim S1x256x4x1 ![1, 2] bcast_S256x4_S1x256x4x1_1_2 (transpose S256x4 [1, 0] (Host.exp (mulf
    (broadcastInDim S4x256 ![0, 1] bcast_S4x1_S4x256_0_1 (broadcastInDim S4x1 ![0] bcast_S4_S4x1_0 (shapeCast S4
    a5 shapeCasts_S1x4_S4))) (broadcastInDim S4x256 ![0, 1] bcast_S1x256_S4x256_0_1 (broadcastInDim S1x256 ![1]
    bcast_S256_S1x256_1 (subf (broadcastInDim S256 ![] bcast_S_S256 (constant S_ .f32 0x437F0000#32)) (sitofp
    .f32 (iotaInDim S256 32 0))))))) transposes_S4x256_S256x4_1_0)))) (shapeCast S8x256x4x256 (Host.dotGeneral
    dot_S8x256x1024_S1024x1024_S8x256x1024_2_0_01_1_n_n none (addf (mulf (mulf (mulf a0 (broadcastInDim
    S8x256x1024 ![0, 1, 2] bcast_S8x256x1_S8x256x1024_0_1_2 (Host.rsqrt (addf (Host.divf (broadcastInDim
    S8x256x1 ![0, 1] bcast_S8x256_S8x256x1_0_1 (Host.reduceAdd (mulf a0 a0) (constant S_ .f32 0x00000000#32)
    reducesTo_S8x256x1024_S8x256_d2 h_S_)) (broadcastInDim S8x256x1 ![] bcast_S_S8x256x1 (constant S_ .f32
    0x44800000#32))) (broadcastInDim S8x256x1 ![] bcast_S_S8x256x1 (constant S_ .f32 0x358637BD#32))))))
    (broadcastInDim S8x256x1024 ![0, 1, 2] bcast_S1x1x1024_S8x256x1024_0_1_2 (broadcastInDim S1x1x1024 ![2]
    bcast_S1024_S1x1x1024_2 (shapeCast S1024 a3 shapeCasts_S1x1024_S1024)))) (broadcastInDim S8x256x1024 ![0, 1,
    2] bcast_S1x1x1024_S8x256x1024_0_1_2 (broadcastInDim S1x1x1024 ![1, 2] bcast_S1x1024_S1x1x1024_1_2 (addf
    (broadcastInDim S1x1024 ![] bcast_S_S1x1024 (constant S_ .f32 0x3F800000#32)) a2)))) (broadcastInDim
    S8x256x1024 ![0, 1, 2] bcast_S1x1x1024_S8x256x1024_0_1_2 (broadcastInDim S1x1x1024 ![1, 2]
    bcast_S1x1024_S1x1x1024_1_2 a1))) (extractStridedSlice S1024x1024 ![0, 4096] (shapeCast S1024x8192 a4
    shapeCasts_S1x1024x8192_S1024x8192) slices_S1024x8192_S1024x1024_0_4096))
    shapeCasts_S8x256x1024_S8x256x4x256)

/-- The reference's composed operations for the second result, over its arguments. -/
def refB : FVec Ideal S8x4x128x256 .f32 :=
  Host.dotGeneral dot_S8x256x4x128_S8x256x4x256_S8x4x128x256_1_1_3_3_02_02 none (mulf (mulf (shapeCast
    S8x256x4x128 (Host.dotGeneral dot_S8x256x1024_S1024x512_S8x256x512_2_0_01_1_n_n none (addf (mulf (mulf (mulf
    a0 (broadcastInDim S8x256x1024 ![0, 1, 2] bcast_S8x256x1_S8x256x1024_0_1_2 (Host.rsqrt (addf (Host.divf
    (broadcastInDim S8x256x1 ![0, 1] bcast_S8x256_S8x256x1_0_1 (Host.reduceAdd (mulf a0 a0) (constant S_ .f32
    0x00000000#32) reducesTo_S8x256x1024_S8x256_d2 h_S_)) (broadcastInDim S8x256x1 ![] bcast_S_S8x256x1
    (constant S_ .f32 0x44800000#32))) (broadcastInDim S8x256x1 ![] bcast_S_S8x256x1 (constant S_ .f32
    0x358637BD#32)))))) (broadcastInDim S8x256x1024 ![0, 1, 2] bcast_S1x1x1024_S8x256x1024_0_1_2 (broadcastInDim
    S1x1x1024 ![2] bcast_S1024_S1x1x1024_2 (shapeCast S1024 a3 shapeCasts_S1x1024_S1024)))) (broadcastInDim
    S8x256x1024 ![0, 1, 2] bcast_S1x1x1024_S8x256x1024_0_1_2 (broadcastInDim S1x1x1024 ![1, 2]
    bcast_S1x1024_S1x1x1024_1_2 (addf (broadcastInDim S1x1024 ![] bcast_S_S1x1024 (constant S_ .f32
    0x3F800000#32)) a2)))) (broadcastInDim S8x256x1024 ![0, 1, 2] bcast_S1x1x1024_S8x256x1024_0_1_2
    (broadcastInDim S1x1x1024 ![1, 2] bcast_S1x1024_S1x1x1024_1_2 a1))) (extractStridedSlice S1024x512 ![0,
    3584] (shapeCast S1024x8192 a4 shapeCasts_S1x1024x8192_S1024x8192) slices_S1024x8192_S1024x512_0_3584))
    shapeCasts_S8x256x512_S8x256x4x128) (broadcastInDim S8x256x4x128 ![] bcast_S_S8x256x4x128 (constant S_ .f32
    0x3DB504F3#32))) (broadcastInDim S8x256x4x128 ![0, 1, 2, 3] bcast_S1x256x4x1_S8x256x4x128_0_1_2_3
    (broadcastInDim S1x256x4x1 ![1, 2] bcast_S256x4_S1x256x4x1_1_2 (transpose S256x4 [1, 0] (Host.exp (mulf
    (broadcastInDim S4x256 ![0, 1] bcast_S4x1_S4x256_0_1 (broadcastInDim S4x1 ![0] bcast_S4_S4x1_0 (shapeCast S4
    a6 shapeCasts_S1x4_S4))) (broadcastInDim S4x256 ![0, 1] bcast_S1x256_S4x256_0_1 (broadcastInDim S1x256 ![1]
    bcast_S256_S1x256_1 (sitofp .f32 (iotaInDim S256 32 0)))))) transposes_S4x256_S256x4_1_0)))) (shapeCast
    S8x256x4x256 (Host.dotGeneral dot_S8x256x1024_S1024x1024_S8x256x1024_2_0_01_1_n_n none (addf (mulf (mulf
    (mulf a0 (broadcastInDim S8x256x1024 ![0, 1, 2] bcast_S8x256x1_S8x256x1024_0_1_2 (Host.rsqrt (addf
    (Host.divf (broadcastInDim S8x256x1 ![0, 1] bcast_S8x256_S8x256x1_0_1 (Host.reduceAdd (mulf a0 a0) (constant
    S_ .f32 0x00000000#32) reducesTo_S8x256x1024_S8x256_d2 h_S_)) (broadcastInDim S8x256x1 ![] bcast_S_S8x256x1
    (constant S_ .f32 0x44800000#32))) (broadcastInDim S8x256x1 ![] bcast_S_S8x256x1 (constant S_ .f32
    0x358637BD#32)))))) (broadcastInDim S8x256x1024 ![0, 1, 2] bcast_S1x1x1024_S8x256x1024_0_1_2 (broadcastInDim
    S1x1x1024 ![2] bcast_S1024_S1x1x1024_2 (shapeCast S1024 a3 shapeCasts_S1x1024_S1024)))) (broadcastInDim
    S8x256x1024 ![0, 1, 2] bcast_S1x1x1024_S8x256x1024_0_1_2 (broadcastInDim S1x1x1024 ![1, 2]
    bcast_S1x1024_S1x1x1024_1_2 (addf (broadcastInDim S1x1024 ![] bcast_S_S1x1024 (constant S_ .f32
    0x3F800000#32)) a2)))) (broadcastInDim S8x256x1024 ![0, 1, 2] bcast_S1x1x1024_S8x256x1024_0_1_2
    (broadcastInDim S1x1x1024 ![1, 2] bcast_S1x1024_S1x1x1024_1_2 a1))) (extractStridedSlice S1024x1024 ![0,
    4096] (shapeCast S1024x8192 a4 shapeCasts_S1x1024x8192_S1024x8192) slices_S1024x8192_S1024x1024_0_4096))
    shapeCasts_S8x256x1024_S8x256x4x256)

theorem refF_eq : refF a0 a1 a2 a3 a4 a5 = stateF a0 a1 a2 a3 a4 a5 := by
  funext i
  idx_vars i
  pointwise [refF, stateF, key, val, modRow, pos]

theorem refB_eq : refB a0 a1 a2 a3 a4 a6 = stateB a0 a1 a2 a3 a4 a6 := by
  funext i
  idx_vars i
  pointwise [refB, stateB, key, val, modRow, pos]

end Reference

/-- `Cert.algebraic_Kernel4Ideal_Reference4Ideal`: the two result arrays of each program are `stateF` and `stateB` of
    arguments that agree. -/
theorem algebraic : Cert.algebraic_Kernel4Ideal_Reference4Ideal := by
  intro m ρ m' ρ' _ hagree
  refine ⟨fun c => (Cert.Kernel4Ideal.Gen.dats m 0 c).arrAt 8 Cert.Kernel4Ideal.cfg0.N,
    fun c => (Cert.Kernel4Ideal.Gen.dats m 0 c).arrAt 9 Cert.Kernel4Ideal.cfg0.N, Cert.Kernel4Ideal.Value.run_blocks m ρ, ?_⟩
  refine (θ_run Cert.Reference4Ideal.defs _ _).mono (fun r h c => ⟨((h c).1).trans ?_, ((h c).2.1).trans ?_, (h c).2.2⟩)
    (Cert.Reference4Ideal.Value.run (F := Ideal) m' ρ')
  · obtain ⟨h0, h1, h2, h3, h4, h5, h6⟩ := hagree c
    rw [h0, h1, h2, h3, h4, h5]
    exact (refF_eq _ _ _ _ _ _).trans (final8 m c).symm
  · obtain ⟨h0, h1, h2, h3, h4, h5, h6⟩ := hagree c
    rw [h0, h1, h2, h3, h4, h6]
    exact (refB_eq _ _ _ _ _ _).trans (final9 m c).symm

end Cert.Ctx
end
-- ==== Proof.Conv.lean ====
/-
  The short convolution before the long one: what the call's two result arrays hold after the run, as formulas over the
  argument arrays, and that the plain reference computes the same formulas. Nothing here needs the arguments to be
  finite: the two programs apply the same operations in the same order.
-/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 200000

noncomputable section

namespace Cert.Conv

open Idealize.ShloMosaic Idealize.ShloMosaic.TcCoe Idealize.SL.Sem
open Idealize.ShloMosaic.Pipeline (Dat)

section Formula

variable (p : FVec Ideal ⟨3, ![8, 8192, 8192]⟩ .bf16) (w : FVec Ideal ⟨3, ![1, 3, 3072]⟩ .f32) (b : FVec Ideal ⟨2, ![1, 3072]⟩ .f32)

/-- The token before, or nothing. -/
def up (i : Fin 8) (t : Fin 8192) (j : Fin 3072) : EReal := if h : t.val = 0 then 0 else p (ix3 i ⟨t.val - 1, by omega⟩ ⟨j.val, by omega⟩)
/-- The token after, or nothing. -/
def dn (i : Fin 8) (t : Fin 8192) (j : Fin 3072) : EReal := if h : t.val = 8191 then 0 else p (ix3 i ⟨t.val + 1, by omega⟩ ⟨j.val, by omega⟩)

/-- Column `j` of the convolved projection. -/
def conv (i : Fin 8) (t : Fin 8192) (j : Fin 3072) : EReal :=
  up p i t j * w (ix3 0 0 j) + p (ix3 i t ⟨j.val, by omega⟩) * w (ix3 0 1 j) + dn p i t j * w (ix3 0 2 j) + b (ix2 0 j)

def uF : FVec Ideal ⟨3, ![8, 8192, 1024]⟩ .bf16 := fun y =>
  conv p w b (y 0) (y 1) ⟨2048 + (y 2).val, by have := (y 2).isLt; simp at this; omega⟩ * conv p w b (y 0) (y 1) ⟨1024 + (y 2).val, by have := (y 2).isLt; simp at this; omega⟩
def x0F : FVec Ideal ⟨3, ![8, 8192, 1024]⟩ .bf16 := fun y => conv p w b (y 0) (y 1) ⟨(y 2).val, by have := (y 2).isLt; simp at this; omega⟩

end Formula

section Kernel

open Cert.Kernel5Ideal Cert.Kernel5Ideal.Gen

variable (m : (ℓ : Loc nD τ sig) → Buf (Elt Ideal) ℓ) (ρ : Dev nD → PrngReg)

theorem idx : ∀ t : Fin cfg0.N, win0_0.index t = ![(grid0.coords t 0).val, (grid0.coords t 1).val, 0]
    ∧ win0_1.index t = ![(grid0.coords t 0).val, 64 * (grid0.coords t 1).val - 1, 0]
    ∧ win0_2.index t = ![(grid0.coords t 0).val, min (64 * (grid0.coords t 1).val + 64) 511, 0]
    ∧ win0_3.index t = ![0, 0] ∧ win0_4.index t = ![0, 0]
    ∧ win0_5.index t = ![(grid0.coords t 0).val, (grid0.coords t 1).val, 0]
    ∧ win0_6.index t = ![(grid0.coords t 0).val, (grid0.coords t 1).val, 0] :=
  (by decide +kernel : ∀ t : Fin grid0.N, _)

/-- The grid's second coordinate. -/
theorem coord1_lt (t : Fin cfg0.N) : (grid0.coords t 1).val < 8 := (grid0.coords t 1).isLt

/-- The rows of the point's own block, -/
theorem read0 (c : Dev nD) (t : Fin cfg0.N) (i : Fin 8) (T : Fin 8192) (r : Fin 1024) (k : Fin 3072) (hi : i.val = (grid0.coords t 0).val)
    (hT : T.val = 1024 * (grid0.coords t 1).val + r.val) :
    (X0_0 m c t : FVec Ideal S1x1024x3072 .bf16) (ix3 0 r k)
      = (m ((c : Thread nD τ).loc main_arg0) : FVec Ideal S8x8192x8192 .bf16) (ix3 i T ⟨k.val, by omega⟩) := by
  unfold X0_0 Pipeline.Window.fill
  rw [dif_pos (moved0_0 t _)]
  blk_ext [iblk, V, idx t]

/-- the row before it, -/
theorem read1 (c : Dev nD) (t : Fin cfg0.N) (i : Fin 8) (T : Fin 8192) (k : Fin 3072) (hi : i.val = (grid0.coords t 0).val)
    (hT : T.val + 1 = 1024 * (grid0.coords t 1).val) :
    (X0_1 m c t : FVec Ideal S1x16x3072 .bf16) (ix3 0 15 k)
      = (m ((c : Thread nD τ).loc main_arg0) : FVec Ideal S8x8192x8192 .bf16) (ix3 i T ⟨k.val, by omega⟩) := by
  unfold X0_1 Pipeline.Window.fill
  rw [dif_pos (moved0_1 t _)]
  blk_ext [iblk, V, idx t]

/-- and the row after it. -/
theorem read2 (c : Dev nD) (t : Fin cfg0.N) (i : Fin 8) (T : Fin 8192) (k : Fin 3072) (hi : i.val = (grid0.coords t 0).val)
    (hT : T.val = 1024 * (grid0.coords t 1).val + 1024) :
    (X0_2 m c t : FVec Ideal S1x16x3072 .bf16) (ix3 0 0 k)
      = (m ((c : Thread nD τ).loc main_arg0) : FVec Ideal S8x8192x8192 .bf16) (ix3 i T ⟨k.val, by omega⟩) := by
  unfold X0_2 Pipeline.Window.fill
  rw [dif_pos (moved0_2 t _)]
  blk_ext [iblk, V, idx t]

/-- The weights and the bias as the region finds them. -/
theorem V_w (c : Dev nD) (a : Fin 3) (k : Fin 3072) : (V m c main_v0 : FVec Ideal S3x3072 .f32) (ix2 a k) = (m ((c : Thread nD τ).loc main_arg1) : FVec Ideal S1x3x3072 .f32) (ix3 0 a k) := by
  entry_read
  pointwise []

theorem V_b (c : Dev nD) (k : Fin 3072) : (V m c main_v2 : FVec Ideal S1x3072 .f32) (ix2 0 k) = (m ((c : Thread nD τ).loc main_arg2) : FVec Ideal S1x3072 .f32) (ix2 0 k) := by
  entry_read
  pointwise []

theorem read3 (c : Dev nD) (t : Fin cfg0.N) (a : Fin 3) (k : Fin 3072) :
    (iblk m c 3 t : FVec Ideal S3x3072 .f32) (ix2 a k) = (m ((c : Thread nD τ).loc main_arg1) : FVec Ideal S1x3x3072 .f32) (ix3 0 a k) := by
  have e : ∀ W : FVec Ideal S3x3072 .f32, W (((cfg0.win 3).blk t).view.emb (ix2 a k)) = W (ix2 a k) := fun W => by blk_ext [idx t]
  exact (e (V m c main_v0)).trans (V_w m c a k)

theorem read4 (c : Dev nD) (t : Fin cfg0.N) (k : Fin 3072) :
    (iblk m c 4 t : FVec Ideal S1x3072 .f32) (ix2 0 k) = (m ((c : Thread nD τ).loc main_arg2) : FVec Ideal S1x3072 .f32) (ix2 0 k) := by
  have e : ∀ W : FVec Ideal S1x3072 .f32, W (((cfg0.win 4).blk t).view.emb (ix2 0 k)) = W (ix2 0 k) := fun W => by blk_ext [idx t]
  exact (e (V m c main_v2)).trans (V_b m c k)

/-- Two small numbers' words are equal when the numbers are. -/
theorem word_eq (a b : ℕ) (ha : a < 2 ^ 32) (hb : b < 2 ^ 32) : IntOp.cmpi CmpIPredicate.eq (BitVec.ofNat 32 a) (BitVec.ofNat 32 b) = if a = b then 1#1 else 0#1 := by
  by_cases h : a = b
  · subst h; simp [IntOp.cmpi]
  · have : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    simp only [IntOp.cmpi, beq_eq_false_iff_ne.mpr this, if_neg h]
    rfl

/-- A select over such a comparison. -/
theorem select_word {α : Type} (a b : ℕ) (ha : a < 2 ^ 32) (hb : b < 2 ^ 32) (x y : α) :
    Scalar.select (IntOp.cmpi CmpIPredicate.eq (BitVec.ofNat 32 a) (BitVec.ofNat 32 b)) x y = if a = b then x else y := by
  rw [word_eq a b ha hb]
  by_cases h : a = b <;> simp [h, Scalar.select]

/-- What the body computes at row `r` and column `k` of its block, `l` the block's number along the sequence. -/
def bodyAt (A0 : FVec Ideal S1x1024x3072 .bf16) (A1 A2 : FVec Ideal S1x16x3072 .bf16) (A3 : FVec Ideal S3x3072 .f32) (A4 : FVec Ideal S1x3072 .f32)
    (l : ℕ) (r : Fin 1024) (k : Fin 3072) : EReal :=
  (Scalar.select (IntOp.cmpi CmpIPredicate.eq (BitVec.ofNat 32 r.val) 0#32)
      (Scalar.select (Scalar.cmpi CmpIPredicate.eq (BitVec.ofNat 32 l) 0#32) 0 (A1 (ix3 0 15 k)))
      (A0 (ix3 0 ⟨(r.val + 1024 - 1) % 1024, Nat.mod_lt _ (by decide)⟩ k)) : EReal) * A3 (ix2 0 k)
    + A0 (ix3 0 r k) * A3 (ix2 1 k)
    + (Scalar.select (IntOp.cmpi CmpIPredicate.eq (BitVec.ofNat 32 r.val) 1023#32)
      (Scalar.select (Scalar.cmpi CmpIPredicate.eq (BitVec.ofNat 32 l) 7#32) 0 (A2 (ix3 0 0 k)))
      (A0 (ix3 0 ⟨(r.val + 1024 - 1023) % 1024, Nat.mod_lt _ (by decide)⟩ k)) : EReal) * A3 (ix2 2 k)
    + A4 (ix2 0 k)

/-- It is the convolution at that token. -/
theorem bodyAt_eq (c : Dev nD) (t : Fin cfg0.N) (r : Fin 1024) (k j : Fin 3072) (i : Fin 8) (T : Fin 8192) (hi : i.val = (grid0.coords t 0).val)
    (hT : T.val = 1024 * (grid0.coords t 1).val + r.val) (hk : k.val = j.val) :
    bodyAt (X0_0 m c t) (X0_1 m c t) (X0_2 m c t) (iblk m c 3 t) (iblk m c 4 t) (grid0.coords t 1).val r k = conv (m ((c : Thread nD τ).loc main_arg0)) (m ((c : Thread nD τ).loc main_arg1)) (m ((c : Thread nD τ).loc main_arg2)) i T j := by
  obtain rfl : k = j := Fin.ext hk
  have hc := coord1_lt t
  have hr := r.isLt
  have hU : (Scalar.select (IntOp.cmpi CmpIPredicate.eq (BitVec.ofNat 32 r.val) 0#32)
      (Scalar.select (Scalar.cmpi CmpIPredicate.eq (BitVec.ofNat 32 (grid0.coords t 1).val) 0#32) 0 ((X0_1 m c t : FVec Ideal S1x16x3072 .bf16) (ix3 0 15 k)))
      ((X0_0 m c t : FVec Ideal S1x1024x3072 .bf16) (ix3 0 ⟨(r.val + 1024 - 1) % 1024, Nat.mod_lt _ (by decide)⟩ k)) : EReal)
      = up (m ((c : Thread nD τ).loc main_arg0)) i T k := by
    refine (select_word r.val 0 (by omega) (by omega) _ _).trans ?_
    unfold up
    by_cases hr0 : r.val = 0
    · rw [if_pos hr0]
      refine (select_word (grid0.coords t 1).val 0 (by omega) (by omega) _ _).trans ?_
      by_cases hc0 : (grid0.coords t 1).val = 0
      · rw [if_pos hc0, dif_pos (by omega)]
      · rw [if_neg hc0, dif_neg (by omega)]
        exact read1 m c t i ⟨T.val - 1, by omega⟩ k hi (by show T.val - 1 + 1 = _; omega)
    · rw [if_neg hr0, dif_neg (by omega)]
      exact read0 m c t i ⟨T.val - 1, by omega⟩ _ k hi (by show T.val - 1 = _ + (r.val + 1024 - 1) % 1024; omega)
  have hD : (Scalar.select (IntOp.cmpi CmpIPredicate.eq (BitVec.ofNat 32 r.val) 1023#32)
      (Scalar.select (Scalar.cmpi CmpIPredicate.eq (BitVec.ofNat 32 (grid0.coords t 1).val) 7#32) 0 ((X0_2 m c t : FVec Ideal S1x16x3072 .bf16) (ix3 0 0 k)))
      ((X0_0 m c t : FVec Ideal S1x1024x3072 .bf16) (ix3 0 ⟨(r.val + 1024 - 1023) % 1024, Nat.mod_lt _ (by decide)⟩ k)) : EReal)
      = dn (m ((c : Thread nD τ).loc main_arg0)) i T k := by
    refine (select_word r.val 1023 (by omega) (by omega) _ _).trans ?_
    unfold dn
    by_cases hr0 : r.val = 1023
    · rw [if_pos hr0]
      refine (select_word (grid0.coords t 1).val 7 (by omega) (by omega) _ _).trans ?_
      by_cases hc0 : (grid0.coords t 1).val = 7
      · rw [if_pos hc0, dif_pos (by omega)]
      · rw [if_neg hc0, dif_neg (by omega)]
        exact read2 m c t i ⟨T.val + 1, by omega⟩ k hi (by show T.val + 1 = _; omega)
    · rw [if_neg hr0, dif_neg (by omega)]
      exact read0 m c t i ⟨T.val + 1, by omega⟩ _ k hi (by show T.val + 1 = _ + (r.val + 1024 - 1023) % 1024; omega)
  unfold bodyAt conv
  rw [hU, hD, read3, read3, read3, read4, read0 m c t i T r k hi hT]

/-- The first result, the gated product, -/
theorem final5 (c : Dev nD) : (dats m 0 c).arrAt 5 cfg0.N = uF (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨i, hi⟩ : ∃ i : S8x8192x1024.Idx, i = ((cfg0.win 5).blk t).view.emb y := ⟨_, rfl⟩
  have e0 : (i 0).val = (grid0.coords t 0).val := by rw [hi]; blk_simp [idx t]
  have e1 : (i 1).val = 1024 * (grid0.coords t 1).val + (y 1).val := by rw [hi]; blk_simp [idx t]; omega
  have e2 : (i 2).val = (y 2).val := by rw [hi]; blk_simp [idx t]
  rw [← hi]
  clear hi
  blk_simp
  rw [after0_5]
  simp only [outsAt0]
  unfold out0_A_5
  frame_out
  canon_tiles x h
  all_goals
    refine Eq.trans ?_ (congrArg₂ (fun a b : EReal => a * b)
      (bodyAt_eq m c t (x 1) ⟨2048 + (y 2).val, by omega⟩ ⟨2048 + (i 2).val, by omega⟩ (i 0) (i 1) e0 (by omega) (by simp only [e2]))
      (bodyAt_eq m c t (x 1) ⟨1024 + (y 2).val, by omega⟩ ⟨1024 + (i 2).val, by omega⟩ (i 0) (i 1) e0 (by omega) (by simp only [e2])))
    simp only [h2, ← Nat.add_assoc, Nat.reduceAdd]
    unfold bodyAt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]

/-- and the second, the first third of the columns. -/
theorem final6 (c : Dev nD) : (dats m 0 c).arrAt 6 cfg0.N = x0F (m ((c : Thread nD τ).loc main_arg0)) (m ((c : Thread nD τ).loc main_arg1)) (m ((c : Thread nD τ).loc main_arg2)) := by
  refine (dats m 0 c).arrAt_eq_of_covers 6 _ (by decide +kernel) fun t hf y => ?_
  obtain ⟨i, hi⟩ : ∃ i : S8x8192x1024.Idx, i = ((cfg0.win 6).blk t).view.emb y := ⟨_, rfl⟩
  have e0 : (i 0).val = (grid0.coords t 0).val := by rw [hi]; blk_simp [idx t]
  have e1 : (i 1).val = 1024 * (grid0.coords t 1).val + (y 1).val := by rw [hi]; blk_simp [idx t]; omega
  have e2 : (i 2).val = (y 2).val := by rw [hi]; blk_simp [idx t]
  rw [← hi]
  clear hi
  blk_simp
  rw [after0_6]
  simp only [outsAt0]
  unfold out0_A_6
  frame_out
  canon_tiles x h
  all_goals
    refine Eq.trans ?_ (bodyAt_eq m c t (x 1) ⟨(y 2).val, by omega⟩ ⟨(i 2).val, by omega⟩ (i 0) (i 1) e0 (by omega) e2.symm)
    simp only [h2]
    unfold bodyAt
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60]

end Kernel

section Reference

open Cert.Reference5Ideal Cert.Reference5Ideal.Gen

variable (m : (ℓ : Loc nD τ sig) → Buf (Elt Ideal) ℓ)

/-- The reference's convolved projection, over its arguments. -/
def refZ (a0 : FVec Ideal S8x8192x8192 .bf16) (a1 : FVec Ideal S1x3x3072 .f32) (a2 : FVec Ideal S1x3072 .f32) : FVec Ideal S8x8192x3072 .f32 :=
  have q : FVec Ideal S8x8194x3072 .f32 := pad S8x8194x3072 ![0, 1, 0] ![0, 1, 0] ![0, 0, 0] (extf .f32 (extractStridedSlice S8x8192x3072 ![0, 0, 0] a0 slices_S8x8192x8192_S8x8192x3072_0_0_0) bitsLt_bf16_f32) (sitofp .f32 (constantI S_ 32 0#32)) pads_S8x8192x3072_S8x8194x3072_000_110_000 h_S_
  have w : FVec Ideal S3x3072 .f32 := shapeCast S3x3072 a1 shapeCasts_S1x3x3072_S3x3072
  have row : FVec Ideal S1x3072 .f32 → FVec Ideal S8x8192x3072 .f32 := fun v =>
    broadcastInDim S8x8192x3072 ![0, 1, 2] bcast_S1x1x3072_S8x8192x3072_0_1_2 (broadcastInDim S1x1x3072 ![2] bcast_S3072_S1x1x3072_2 (shapeCast S3072 v shapeCasts_S1x3072_S3072))
  addf (addf (addf
    (mulf (extractStridedSlice S8x8192x3072 ![0, 0, 0] q slices_S8x8194x3072_S8x8192x3072_0_0_0) (row (extractStridedSlice S1x3072 ![0, 0] w slices_S3x3072_S1x3072_0_0)))
    (mulf (extractStridedSlice S8x8192x3072 ![0, 1, 0] q slices_S8x8194x3072_S8x8192x3072_0_1_0) (row (extractStridedSlice S1x3072 ![1, 0] w slices_S3x3072_S1x3072_1_0))))
    (mulf (extractStridedSlice S8x8192x3072 ![0, 2, 0] q slices_S8x8194x3072_S8x8192x3072_0_2_0) (row (extractStridedSlice S1x3072 ![2, 0] w slices_S3x3072_S1x3072_2_0))))
    (row a2)

theorem refZ_at (a0 : FVec Ideal S8x8192x8192 .bf16) (a1 : FVec Ideal S1x3x3072 .f32) (a2 : FVec Ideal S1x3072 .f32) (i : Fin 8) (t : Fin 8192) (j : Fin 3072) :
    (refZ a0 a1 a2 : FVec Ideal S8x8192x3072 .f32) (ix3 i t j) = conv a0 a1 a2 i t j := by
  have hz : (FloatOps.sitofp .f32 (0#32) : Ideal .f32) = (0 : EReal) := by
    show ((((0#32 : BitVec 32).toInt : ℝ)) : EReal) = 0
    simp
  have hu : (if h : 1 ≤ t.val ∧ t.val - 1 < 8192 then a0 (ix3 i ⟨t.val - 1, by omega⟩ ⟨j.val, by omega⟩) else FloatOps.sitofp .f32 (0#32) : Ideal .f32)
      = up a0 i t j := by
    unfold up
    by_cases h : t.val = 0
    · rw [dif_neg (by omega), dif_pos h, hz]
    · rw [dif_pos (by omega), dif_neg h]
  have hd : (if h : 1 ≤ 2 + t.val ∧ 2 + t.val - 1 < 8192 then a0 (ix3 i ⟨2 + t.val - 1, h.2⟩ ⟨j.val, by omega⟩) else FloatOps.sitofp .f32 (0#32) : Ideal .f32)
      = dn a0 i t j := by
    unfold dn
    by_cases h : t.val = 8191
    · rw [dif_neg (by omega), dif_pos h, hz]
    · rw [dif_pos (by omega), dif_neg h]
      exact congrArg (fun T : Fin 8192 => a0 (ix3 i T ⟨j.val, by omega⟩)) (Fin.ext (by show 2 + t.val - 1 = t.val + 1; omega))
  unfold conv
  rw [← hu, ← hd]
  pointwise [refZ]

/-- The two results. -/
theorem refU_eq (a0 : FVec Ideal S8x8192x8192 .bf16) (a1 : FVec Ideal S1x3x3072 .f32) (a2 : FVec Ideal S1x3072 .f32) :
    (truncf .bf16 (mulf (extractStridedSlice S8x8192x1024 ![0, 0, 2048] (refZ a0 a1 a2) slices_S8x8192x3072_S8x8192x1024_0_0_2048)
      (extractStridedSlice S8x8192x1024 ![0, 0, 1024] (refZ a0 a1 a2) slices_S8x8192x3072_S8x8192x1024_0_0_1024)) bitsLt_bf16_f32 : FVec Ideal S8x8192x1024 .bf16)
      = uF a0 a1 a2 := by
  funext i
  idx_vars i
  have e1 := refZ_at a0 a1 a2 i0 i1 ⟨2048 + i2.val, by omega⟩
  have e2 := refZ_at a0 a1 a2 i0 i1 ⟨1024 + i2.val, by omega⟩
  generalize refZ a0 a1 a2 = Z at e1 e2
  refine Eq.trans ?_ (congrArg₂ (fun a b : EReal => a * b) e1 e2)
  pointwise []

theorem refX_eq (a0 : FVec Ideal S8x8192x8192 .bf16) (a1 : FVec Ideal S1x3x3072 .f32) (a2 : FVec Ideal S1x3072 .f32) :
    (truncf .bf16 (extractStridedSlice S8x8192x1024 ![0, 0, 0] (refZ a0 a1 a2) slices_S8x8192x3072_S8x8192x1024_0_0_0) bitsLt_bf16_f32 : FVec Ideal S8x8192x1024 .bf16)
      = x0F a0 a1 a2 := by
  funext i
  idx_vars i
  have e1 := refZ_at a0 a1 a2 i0 i1 ⟨i2.val, by omega⟩
  generalize refZ a0 a1 a2 = Z at e1
  refine Eq.trans ?_ e1
  pointwise []

end Reference

/-- `Cert.algebraic_Kernel5Ideal_Reference5Ideal`: both programs' arrays are `uF` and `x0F` of arguments that agree. -/
theorem algebraic : Cert.algebraic_Kernel5Ideal_Reference5Ideal := by
  intro m ρ m' ρ' _ hagree
  refine ⟨fun c => (Cert.Kernel5Ideal.Gen.dats m 0 c).arrAt 5 Cert.Kernel5Ideal.cfg0.N,
    fun c => (Cert.Kernel5Ideal.Gen.dats m 0 c).arrAt 6 Cert.Kernel5Ideal.cfg0.N, Cert.Kernel5Ideal.Value.run_blocks m ρ, ?_⟩
  refine (θ_run Cert.Reference5Ideal.defs _ _).mono (fun r h c => ⟨((h c).1).trans ?_, ((h c).2.1).trans ?_, (h c).2.2⟩)
    (Cert.Reference5Ideal.Value.run (F := Ideal) m' ρ')
  · unfold Cert.Reference5Ideal.Value.res_main_v32
    rw [(hagree c).1, (hagree c).2.1, (hagree c).2.2]
    exact (refU_eq _ _ _).trans (final5 m c).symm
  · rw [(hagree c).1, (hagree c).2.1, (hagree c).2.2]
    exact (refX_eq _ _ _).trans (final6 m c).symm

end Cert.Conv
end
-- ==== Proof.Ret.Off.lean ====
module

public import proofs.«01_k».proof.Proof.Gen.KernelIdeal.Frame
public import proofs.«01_k».proof.Proof.Gen.KernelIdeal.Skeleton
public import Idealize.ShloMosaic.Lib.Tactic

@[expose] public section

namespace Cert.Ret

open Cert.KernelIdeal Cert.KernelIdeal.Gen
open Idealize.ShloMosaic Idealize.ShloMosaic.Tactic

/-! The phase of a grid point: `(i 2).val` is 0, 1 (backward) or 2, 3 (forward). -/

theorem s_lt (i : grid0.Coords) : (i 2).val < 4 := (i 2).isLt

theorem cond3_iff (i : grid0.Coords) : k0_cond3 i = 1#1 ↔ (i 2).val < 2 := by
  have h := s_lt i
  unfold k0_cond3
  generalize (i 2).val = n at h ⊢
  have hn : n = 0 ∨ n = 1 ∨ n = 2 ∨ n = 3 := by omega
  rcases hn with rfl | rfl | rfl | rfl <;> decide

theorem cond4_iff (i : grid0.Coords) : k0_cond4 i = 1#1 ↔ 2 ≤ (i 2).val := by
  have h := s_lt i
  unfold k0_cond4
  generalize (i 2).val = n at h ⊢
  have hn : n = 0 ∨ n = 1 ∨ n = 2 ∨ n = 3 := by omega
  rcases hn with rfl | rfl | rfl | rfl <;> decide

theorem off1_eq (i : grid0.Coords) (h : (i 2).val < 2) (w : BitVec 32) :
    k0_off1 i w = ![(16 * (1 - (i 2).val) + w.toNat) % 4294967296, 0, 0] := by
  unfold k0_off1
  generalize (i 2).val = n at h ⊢
  funext a
  have hn : n = 0 ∨ n = 1 := by omega
  rcases hn with rfl | rfl <;> match a with | 0 => simp [Scalar.indexCast, Scalar.addi, Scalar.muli, Scalar.subi, BitVec.toNat_add, IntOp.addi, IntOp.muli, IntOp.subi] <;> exact (Nat.mod_eq_of_lt w.isLt).symm | 1 => rfl | 2 => rfl

theorem off2_eq (i : grid0.Coords) (h : 2 ≤ (i 2).val) (w : BitVec 32) :
    k0_off2 i w = ![(16 * ((i 2).val - 2) + w.toNat) % 4294967296, 0, 0] := by
  have h4 := s_lt i
  unfold k0_off2
  generalize (i 2).val = n at h h4 ⊢
  funext a
  have hn : n = 2 ∨ n = 3 := by omega
  rcases hn with rfl | rfl <;> match a with | 0 => simp [Scalar.indexCast, Scalar.addi, Scalar.muli, Scalar.subi, BitVec.toNat_add, IntOp.addi, IntOp.muli, IntOp.subi] <;> exact (Nat.mod_eq_of_lt w.isLt).symm | 1 => rfl | 2 => rfl

instance (i : grid0.Coords) [h : Fact ((i 2).val < 2)] (w : BitVec 32) : ClosedOff (k0_off1 i w) :=
  ⟨![(16 * (1 - (i 2).val) + w.toNat) % 4294967296, 0, 0], off1_eq i h.out w⟩

instance (i : grid0.Coords) [h : Fact (2 ≤ (i 2).val)] (w : BitVec 32) : ClosedOff (k0_off2 i w) :=
  ⟨![(16 * ((i 2).val - 2) + w.toNat) % 4294967296, 0, 0], off2_eq i h.out w⟩

end Cert.Ret
-- ==== Proof.Ret.Spec.lean ====
/-
  What one point of the retention kernel computes, over any arithmetic: the rows of a block that one chunk reads,
  the two chunk steps of the state, the chunk's output rows, and their runs over the sixteen chunks of a block.
-/
module

public import proofs.«01_k».proof.Proof.Gen.KernelIdeal.Skeleton
public import Idealize.ShloMosaic.Lib.WholeRead

@[expose] public section

noncomputable section

namespace Cert.Ret

open Cert.KernelIdeal Cert.KernelIdeal.Gen
open Idealize.ShloMosaic Idealize.ShloMosaic.TcCoe

variable {F : FTy → Type} [FloatOps F]

/-! ## The chunk's rectangles -/

theorem inb3 {n : ℕ} (k : Fin 16) : ∀ a, (![0, 256 * k.val, 0] : Fin 3 → ℕ) a + (⟨3, ![1, 256, n]⟩ : Shape).size a ≤ (⟨3, ![1, 4096, n]⟩ : Shape).size a
  | 0 => by simp
  | 1 => by have := k.isLt; show 256 * k.val + 256 ≤ 4096; omega
  | 2 => by simp

theorem inb2 (k : Fin 16) : ∀ a, (![256 * k.val, 0] : Fin 2 → ℕ) a + S256x128.size a ≤ S4096x128.size a
  | 0 => by have := k.isLt; show 256 * k.val + 256 ≤ 4096; omega
  | 1 => by simp

/-- Rows `256k … 256k+255` of a block of queries or keys. -/
def rK (k : Fin 16) : Rect S1x4096x128 := Rect.unit ![0, 256 * k.val, 0] S1x256x128.size (inb3 k)
/-- Rows `256k … 256k+255` of a block of values, gates or outputs. -/
def rV (k : Fin 16) : Rect S1x4096x256 := Rect.unit ![0, 256 * k.val, 0] S1x256x256.size (inb3 k)
/-- Rows `256k … 256k+255` of a block of cosines or sines. -/
def rC (k : Fin 16) : Rect S4096x128 := Rect.unit ![256 * k.val, 0] S256x128.size (inb2 k)

/-! ## One chunk -/

/-- The backward state after a chunk, from the state before it. -/
def bStep (lb : Vec F S1x1x1 .f32) (pm : Vec F S128x128 .bf16) (k : Vec F S1x256x128 .bf16) (v : Vec F S1x256x256 .bf16)
    (co si : Vec F S256x128 .f32) (s : Vec F S128x256 .f32) : Vec F S128x256 .f32 :=
  k0_pay13 (k0_pay10 (k0_pay2 lb)) (k0_pay12 (k0_pay2 lb) k0_pay3 k pm co si v) s

/-- The forward state after a chunk, from the state before it. -/
def fStep (lf : Vec F S1x1x1 .f32) (pm : Vec F S128x128 .bf16) (k : Vec F S1x256x128 .bf16) (v : Vec F S1x256x256 .bf16)
    (co si : Vec F S256x128 .f32) (s : Vec F S128x256 .f32) : Vec F S128x256 .f32 :=
  k0_pay74 (k0_pay65 (k0_pay1 lf) k0_pay3) (k0_pay66 (k0_pay1 lf)) (k0_pay70 k pm co si) (k0_pay71 v) s

/-- A chunk's output rows, from the forward state before the chunk and the backward state after it. -/
def fOut (lf lb : Vec F S1x1x1 .f32) (pm : Vec F S128x128 .bf16) (q k : Vec F S1x256x128 .bf16) (v g : Vec F S1x256x256 .bf16)
    (co si : Vec F S256x128 .f32) (s : Vec F S128x256 .f32) (sb : Vec F S1x128x256 .f32) : Vec F S1x256x256 .bf16 :=
  k0_pay76 (k0_pay75 (k0_pay71 v) (k0_pay72 (k0_pay62 (k0_pay1 lf) (k0_pay2 lb)) (k0_pay67 q) (k0_pay68 q pm) co si k pm co si)
    (k0_pay73 (k0_pay63 (k0_pay1 lf) k0_pay3) (k0_pay64 (k0_pay2 lb) k0_pay3) (k0_pay67 q) (k0_pay68 q pm) co si) s sb g)

/-! ## The chunks of one block -/

/-- The backward state when the last `n` chunks of the block have been taken in. -/
def bFold (lb : Vec F S1x1x1 .f32) (pm : Vec F S128x128 .bf16) (k : Fin 16 → Vec F S1x256x128 .bf16) (v : Fin 16 → Vec F S1x256x256 .bf16)
    (co si : Fin 16 → Vec F S256x128 .f32) (s : Vec F S128x256 .f32) : ℕ → Vec F S128x256 .f32
  | 0 => s
  | n + 1 => bStep lb pm (k ⟨15 - n, by omega⟩) (v ⟨15 - n, by omega⟩) (co ⟨15 - n, by omega⟩) (si ⟨15 - n, by omega⟩)
      (bFold lb pm k v co si s n)

/-- Chunk `n` of the block, the last one when there is no such chunk. -/
def cl (n : ℕ) : Fin 16 := ⟨min n 15, by omega⟩

/-- The forward state when the first `n` chunks of the block have been taken in. -/
def fFold (lf : Vec F S1x1x1 .f32) (pm : Vec F S128x128 .bf16) (k : Fin 16 → Vec F S1x256x128 .bf16) (v : Fin 16 → Vec F S1x256x256 .bf16)
    (co si : Fin 16 → Vec F S256x128 .f32) (s : Vec F S128x256 .f32) : ℕ → Vec F S128x256 .f32
  | 0 => s
  | n + 1 => fStep lf pm (k (cl n)) (v (cl n)) (co (cl n)) (si (cl n)) (fFold lf pm k v co si s n)

/-! ## What a buffer reads -/

/-- The rectangle `R` of `x`. -/
def ld {s : Shape} {e : EltTy} (R : Rect s) (x : Vec F s e) : Vec F R.shape e := fun y => x (R.toLoadRect.idx y)

theorem ld_eq {s : Shape} {e : EltTy} {κ : Kind} {sp : Space} {m : Memref sig κ sp s e} (h : m.IsWhole) (x : Vec F s e) (R : Rect s) :
    ld (F := F) R x = View.readAt (Elt F) m.view R.toLoadRect (h.unread x) :=
  funext fun _ => (h.readAt_unread x R.toLoadRect _).symm

def r1 : Rect S1x1x1 := Rect.unit ![0, 0, 0] S1x1x1.size (by decide)
def rPm : Rect S128x128 := Rect.unit ![0, 0] S128x128.size (by decide)
def rS : Rect S128x256 := Rect.unit ![0, 0] S128x256.size (by decide)
def rS0 : Rect S1x1x128x256 := Rect.unit ![0, 0, 0, 0] S1x1x128x256.size (by decide)

/-- The backward states over a block, by the number of chunks taken in. -/
def bState (x4 : Vec F S1x4096x128 .bf16) (x5 : Vec F S1x4096x256 .bf16) (x7 x8 : Vec F S4096x128 .f32) (x9 : Vec F S128x128 .bf16)
    (x11 : Vec F S1x1x1 .f32) (s : Vec F S128x256 .f32) : ℕ → Vec F S128x256 .f32 :=
  bFold (ld r1 x11) (ld rPm x9) (fun k => ld (rK k) x4) (fun k => ld (rV k) x5) (fun k => ld (rC k) x7) (fun k => ld (rC k) x8) s

/-- The forward states over a block, by the number of chunks taken in. -/
def fState (x4 : Vec F S1x4096x128 .bf16) (x5 : Vec F S1x4096x256 .bf16) (x7 x8 : Vec F S4096x128 .f32) (x9 : Vec F S128x128 .bf16)
    (x10 : Vec F S1x1x1 .f32) (s : Vec F S128x256 .f32) : ℕ → Vec F S128x256 .f32 :=
  fFold (ld r1 x10) (ld rPm x9) (fun k => ld (rK k) x4) (fun k => ld (rV k) x5) (fun k => ld (rC k) x7) (fun k => ld (rC k) x8) s

/-- The place of `y` within its slot. -/
def slotIdx (y : S32x128x256.Idx) : S1x128x256.Idx := fun a => match a with
  | 0 => (⟨0, by decide⟩ : Fin 1)
  | 1 => (y 1 : Fin 128)
  | 2 => (y 2 : Fin 256)

/-- The place of `y` within its chunk's rows. -/
def rowIdx (y : S1x4096x256.Idx) : S1x256x256.Idx := fun a => match a with
  | 0 => (⟨0, by decide⟩ : Fin 1)
  | 1 => (⟨(y 1).val % 256, Nat.mod_lt _ (by decide)⟩ : Fin 256)
  | 2 => (y 2 : Fin 256)

/-- The slots' array when the last `n` chunks of block `blk` have each stored the state before it, `st` by the number taken in. -/
def bSlots (blk : ℕ) (st : ℕ → Vec F S128x256 .f32) (x17 : Vec F S32x128x256 .f32) (n : ℕ) : Vec F S32x128x256 .f32 := fun y =>
  if 16 * blk + 16 - n ≤ (y 0).val ∧ (y 0).val < 16 * blk + 16 then k0_pay6 (st (15 - ((y 0).val - 16 * blk))) (slotIdx y) else x17 y

/-- The output rows of chunk `n` of a block, from the state before each chunk and the slot of each. -/
def fRows (x3 x4 : Vec F S1x4096x128 .bf16) (x5 x6 : Vec F S1x4096x256 .bf16) (x7 x8 : Vec F S4096x128 .f32) (x9 : Vec F S128x128 .bf16)
    (x10 x11 : Vec F S1x1x1 .f32) (st : ℕ → Vec F S128x256 .f32) (slot : ℕ → Vec F S1x128x256 .f32) (n : ℕ) : Vec F S1x256x256 .bf16 :=
  fOut (ld r1 x10) (ld r1 x11) (ld rPm x9) (ld (rK (cl n)) x3) (ld (rK (cl n)) x4) (ld (rV (cl n)) x5) (ld (rV (cl n)) x6)
    (ld (rC (cl n)) x7) (ld (rC (cl n)) x8) (st n) (slot n)

/-- A block of output rows from its chunks'. -/
def fBlock (o : ℕ → Vec F S1x256x256 .bf16) : Vec F S1x4096x256 .bf16 := fun y =>
  o ((y 1).val / 256) (rowIdx y)

end Cert.Ret
end
-- ==== Proof.Ret.Pieces.lean ====
module

public import proofs.«01_k».proof.Proof.Gen.KernelIdeal.Frame
public import proofs.«01_k».proof.Proof.Ret.Off
public import proofs.«01_k».proof.Proof.Ret.Spec
public import Idealize.ShloMosaic.Lib.Tactic
public import Idealize.ShloMosaic.Lib.Tactic.Stretches
public import Idealize.ShloMosaic.Lib.VecWindow

@[expose] public section

set_option maxRecDepth 65536

noncomputable section

namespace Cert.Ret

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The slots' pieces -/

theorem off1_inb (i : grid0.Coords) (h : (i 2).val < 2) (n : ℕ) :
    ∀ a, k0_off1 i (BitVec.ofNat 32 (15 - n)) a + S1x128x256.size a ≤ S32x128x256.size a := by
  rw [off1_eq i h]
  intro a
  match a with
  | 0 =>
    show (16 * (1 - (i 2).val) + (BitVec.ofNat 32 (15 - n)).toNat) % 4294967296 + 1 ≤ 32
    rw [BitVec.toNat_ofNat]; omega
  | 1 => show 0 + 128 ≤ 128; omega
  | 2 => show 0 + 256 ≤ 256; omega

/-- The stores of the last `n` chunks' states, the newest first. -/
def bPieces (i : grid0.Coords) (h : (i 2).val < 2) (st : ℕ → Vec F S128x256 .f32) : ℕ → List (View.Piece (Elt F) S32x128x256 .f32)
  | 0 => []
  | n + 1 => ⟨Rect.unit (k0_off1 i (BitVec.ofNat 32 (15 - n))) S1x128x256.size (off1_inb i h n), k0_pay6 (st n)⟩ :: bPieces i h st n

theorem bPieces_read (i : grid0.Coords) (h : (i 2).val < 2) {κ : Kind} {sp : Space} {m : Memref sig κ sp S32x128x256 .f32} (hm : m.IsWhole)
    (x17 : Vec F S32x128x256 .f32) (st : ℕ → Vec F S128x256 .f32) : ∀ n, n ≤ 16 →
    m.view.read (Elt F) (m.view.writes (Elt F) (hm.unread x17) (bPieces i h st n)) = bSlots (1 - (i 2).val) st x17 n
  | 0, _ => by
    funext y
    have hn : ¬ (16 * (1 - (i 2).val) + 16 - 0 ≤ (y 0).val ∧ (y 0).val < 16 * (1 - (i 2).val) + 16) := by omega
    unfold bSlots
    rw [if_neg hn]
    exact congrFun (hm.read_unread x17) y
  | n + 1, hn => by
    funext y
    have ho : k0_off1 i (BitVec.ofNat 32 (15 - n)) = ![16 * (1 - (i 2).val) + (15 - n), 0, 0] := by
      rw [off1_eq i h, BitVec.toNat_ofNat, Nat.mod_eq_of_lt (a := 15 - n) (by omega), Nat.mod_eq_of_lt (by omega)]
    unfold bPieces
    by_cases hy : (y 0).val = 16 * (1 - (i 2).val) + (15 - n)
    · refine (View.read_writes_cons_unit_of_mem _ _ (off1_inb i h n) _ _ y (slotIdx y) ho ?_).trans ?_
      · intro a
        match a with
        | 0 => exact hy
        | 1 => exact (Nat.zero_add _).symm
        | 2 => exact (Nat.zero_add _).symm
      · unfold bSlots
        rw [if_pos (by omega), show 15 - ((y 0).val - 16 * (1 - (i 2).val)) = n by omega]
    · refine (View.read_writes_cons_unit_of_not_mem _ _ (off1_inb i h n) _ _ y ho 0 ?_).trans ?_
      · show (y 0).val < 16 * (1 - (i 2).val) + (15 - n) ∨ 16 * (1 - (i 2).val) + (15 - n) + 1 ≤ (y 0).val
        omega
      · rw [bPieces_read i h hm x17 st n (by omega)]
        unfold bSlots
        exact if_congr (by omega) rfl rfl

/-! ## The output's pieces -/

/-- The stores of the first `n` chunks' output rows, the newest first. -/
def fPieces (o : ℕ → Vec F S1x256x256 .bf16) : ℕ → List (View.Piece (Elt F) S1x4096x256 .bf16)
  | 0 => []
  | n + 1 => ⟨rV (cl n), o n⟩ :: fPieces o n

theorem fPieces_read {κ : Kind} {sp : Space} (v : View sig κ sp S1x4096x256 .bf16) (f : v.ty.Contents (Elt F)) (o : ℕ → Vec F S1x256x256 .bf16)
    (y : S1x4096x256.Idx) : ∀ n, n ≤ 16 → (y 1).val < 256 * n → v.read (Elt F) (v.writes (Elt F) f (fPieces o n)) y = fBlock o y
  | 0, _, hy => by omega
  | n + 1, hn, hy => by
    have hc : (cl n).val = n := by show min n 15 = n; omega
    unfold fPieces rV
    by_cases h : 256 * n ≤ (y 1).val
    · refine (View.read_writes_cons_unit_of_mem _ _ (inb3 (cl n)) _ _ y (rowIdx y) rfl ?_).trans ?_
      · intro a
        match a with
        | 0 => have := (y 0).isLt; show (y 0).val = 0 + 0; change (y 0).val < 1 at this; omega
        | 1 => show (y 1).val = 256 * (cl n).val + (y 1).val % 256; rw [hc]; omega
        | 2 => exact (Nat.zero_add _).symm
      · unfold fBlock
        rw [show (y 1).val / 256 = n by omega]
    · refine (View.read_writes_cons_unit_of_not_mem _ _ (inb3 (cl n)) _ _ y rfl 1 (Or.inl ?_)).trans ?_
      · show (y 1).val < 256 * (cl n).val; rw [hc]; omega
      · exact fPieces_read v f o y n (by omega) (by omega)

/-! ## The slot a forward chunk reads -/

theorem off2_inb (i : grid0.Coords) (h : 2 ≤ (i 2).val) (n : ℕ) :
    ∀ a, k0_off2 i (BitVec.ofNat 32 (cl n).val) a + S1x128x256.size a ≤ S32x128x256.size a := by
  have h4 := s_lt i
  have hc := (cl n).isLt
  rw [off2_eq i h]
  intro a
  match a with
  | 0 =>
    show (16 * ((i 2).val - 2) + (BitVec.ofNat 32 (cl n).val).toNat) % 4294967296 + 1 ≤ 32
    rw [BitVec.toNat_ofNat]; omega
  | 1 => show 0 + 128 ≤ 128; omega
  | 2 => show 0 + 256 ≤ 256; omega

def rSlot (i : grid0.Coords) (h : 2 ≤ (i 2).val) (n : ℕ) : Rect S32x128x256 :=
  Rect.unit (k0_off2 i (BitVec.ofNat 32 (cl n).val)) S1x128x256.size (off2_inb i h n)

end Cert.Ret
end
-- ==== Proof.Ret.Dats.lean ====
/-
  The retention's proof data: what its scratch buffers hold before each grid point, and what each point leaves in the
  windows' buffers. A head of a batch row takes four points: the two halves of the sequence backwards, then forwards.
-/
module

public import proofs.«01_k».proof.Proof.Gen.KernelIdeal.Frame
public import proofs.«01_k».proof.Proof.Ret.Off
public import proofs.«01_k».proof.Proof.Ret.Spec
public import proofs.«01_k».proof.Proof.Ret.Pieces

@[expose] public section

noncomputable section

namespace Cert.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of a head -/

/-- Point `p` of the `n`-th head. -/
def pt (n p : ℕ) : Fin cfg0.N := ⟨(4 * n + p) % 128, by rw [show cfg0.N = 128 from N_0]; omega⟩

theorem pt_eq (t : Fin cfg0.N) (p : ℕ) (h : t.val % 4 = p) : pt (t.val / 4) p = t := by
  have : t.val < 128 := lt_of_lt_of_eq t.isLt N_0
  exact Fin.ext (by show (4 * (t.val / 4) + p) % 128 = t.val; omega)

theorem coord2 : ∀ t : Fin cfg0.N, (grid0.coords t 2).val = t.val % 4 := by decide +kernel

theorem flush11 : ∀ t : Fin cfg0.N, t.val % 4 < 2 → (cfg0.win 11).flush t = false := by decide +kernel

/-! ## The states of a head -/

/-- The backward states over the block of point `p`, from the state `s`. -/
def bAt (c : Dev nD) (t : Fin cfg0.N) (s : Vec F S128x256 .f32) : ℕ → Vec F S128x256 .f32 :=
  bState (iblk m c 1 t) (iblk m c 2 t) (iblk m c 4 t) (iblk m c 5 t) (iblk m c 6 t) (iblk m c 8 t) s

/-- The forward states over the block of point `p`, from the state `s`. -/
def fAt (c : Dev nD) (t : Fin cfg0.N) (s : Vec F S128x256 .f32) : ℕ → Vec F S128x256 .f32 :=
  fState (iblk m c 1 t) (iblk m c 2 t) (iblk m c 4 t) (iblk m c 5 t) (iblk m c 6 t) (iblk m c 7 t) s

/-- The state a head's backward sweep starts from. -/
def bInit (x : Vec F S1x1x128x256 .f32) : Vec F S128x256 .f32 := k0_pay4 (ld rS0 x)
/-- The state a head's forward sweep starts from. -/
def fInit (x : Vec F S1x1x128x256 .f32) : Vec F S128x256 .f32 := k0_pay5 (ld rS0 x)
/-- A state kept in a scratch buffer between two points, as the later one reads it. -/
def kept (s : Vec F S128x256 .f32) : Vec F S128x256 .f32 := ld rS s

/-- The backward states of head `n` over the second half of the sequence. -/
def b0 (c : Dev nD) (n : ℕ) : ℕ → Vec F S128x256 .f32 := bAt m c (pt n 0) (bInit (iblk m c 10 (pt n 0)))
/-- And over the first half. -/
def b1 (c : Dev nD) (n : ℕ) : ℕ → Vec F S128x256 .f32 := bAt m c (pt n 1) (kept (b0 m c n 16))
/-- The forward states of head `n` over the first half of the sequence. -/
def f0 (c : Dev nD) (n : ℕ) : ℕ → Vec F S128x256 .f32 := fAt m c (pt n 2) (fInit (iblk m c 9 (pt n 2)))
/-- And over the second half. -/
def f1 (c : Dev nD) (n : ℕ) : ℕ → Vec F S128x256 .f32 := fAt m c (pt n 3) (kept (f0 m c n 16))

/-- The backward states of head `n`, one slot for each chunk of the sequence. -/
def slots (c : Dev nD) (n : ℕ) : Vec F S32x128x256 .f32 := fun y =>
  if (y 0).val < 16 then k0_pay6 (b1 m c n (15 - (y 0).val)) (slotIdx y) else k0_pay6 (b0 m c n (15 - ((y 0).val - 16))) (slotIdx y)

theorem slots_of (c : Dev nD) (n : ℕ) (x : Vec F S32x128x256 .f32) :
    bSlots 0 (b1 m c n) (bSlots 1 (b0 m c n) x 16) 16 = slots m c n := by
  funext y
  have hy : (y 0).val < 32 := (y 0).isLt
  by_cases h : (y 0).val < 16
  · rw [bSlots, if_pos ⟨by omega, by omega⟩, slots, if_pos h]; rfl
  · rw [bSlots, if_neg (by omega), bSlots, if_pos ⟨by omega, by omega⟩, slots, if_neg h]

/-- What the scratch buffers hold before point `k`. -/
def Inv (c : Dev nD) (k : ℕ) (x15 x16 : Vec F S128x256 .f32) (x17 : Vec F S32x128x256 .f32) : Prop :=
  (k % 4 = 1 → x16 = b0 m c (k / 4) 16 ∧ ∃ x, x17 = bSlots 1 (b0 m c (k / 4)) x 16)
  ∧ (k % 4 = 2 → x17 = slots m c (k / 4))
  ∧ (k % 4 = 3 → x15 = f0 m c (k / 4) 16 ∧ x17 = slots m c (k / 4))

/-- The scratch buffers and the register before point `k`. -/
def PhiS (c : Dev nD) (k : ℕ) : sProp 𝕄 :=
  iprop(∃ x15 x16 x17, ⌜Inv m c k x15 x16 x17⌝
    ∗ owns (c : Thread nD τ) (Memref.whole cc0_scratch0) fullShare x15
    ∗ owns (c : Thread nD τ) (Memref.whole cc0_scratch1) fullShare x16
    ∗ owns (c : Thread nD τ) (Memref.whole cc0_scratch2) fullShare x17
    ∗ ∃ r, prngReg c r)

/-- The state point `t` starts from, on the backward points. -/
def bIn (c : Dev nD) (t : Fin cfg0.N) : Vec F S128x256 .f32 :=
  if t.val % 4 = 0 then bInit (iblk m c 10 t) else kept (b0 m c (t.val / 4) 16)

/-- The state point `t` starts from, on the forward points. -/
def fIn (c : Dev nD) (t : Fin cfg0.N) : Vec F S128x256 .f32 :=
  if t.val % 4 = 2 then fInit (iblk m c 9 t) else kept (f0 m c (t.val / 4) 16)

theorem b0_eq (c : Dev nD) (t : Fin cfg0.N) (h : t.val % 4 = 0) : b0 m c (t.val / 4) = bAt m c t (bIn m c t) := by
  unfold b0 bIn; rw [pt_eq t 0 h, if_pos h]
theorem b1_eq (c : Dev nD) (t : Fin cfg0.N) (h : t.val % 4 = 1) : b1 m c (t.val / 4) = bAt m c t (bIn m c t) := by
  unfold b1 bIn; rw [pt_eq t 1 h, if_neg (by omega)]
theorem f0_eq (c : Dev nD) (t : Fin cfg0.N) (h : t.val % 4 = 2) : f0 m c (t.val / 4) = fAt m c t (fIn m c t) := by
  unfold f0 fIn; rw [pt_eq t 2 h, if_pos h]
theorem f1_eq (c : Dev nD) (t : Fin cfg0.N) (h : t.val % 4 = 3) : f1 m c (t.val / 4) = fAt m c t (fIn m c t) := by
  unfold f1 fIn; rw [pt_eq t 3 h, if_neg (by omega)]

/-- A backward point takes the scratch buffers from one invariant to the next. -/
theorem Inv_b (c : Dev nD) (t : Fin cfg0.N) (s : ℕ) (hs : s = t.val % 4) (h : s < 2) (x15 x16 : Vec F S128x256 .f32)
    (x17 : Vec F S32x128x256 .f32) (hI : Inv m c t.val x15 x16 x17) :
    Inv m c (t.val + 1) x15 (bAt m c t (bIn m c t) 16) (bSlots (1 - s) (bAt m c t (bIn m c t)) x17 16) := by
  have hd : (t.val + 1) / 4 = t.val / 4 := by omega
  subst hs
  by_cases h0 : t.val % 4 = 0
  · refine ⟨fun _ => ?_, fun h => by omega, fun h => by omega⟩
    rw [hd, b0_eq m c t h0, h0]
    exact ⟨rfl, x17, rfl⟩
  · have h1 : t.val % 4 = 1 := by omega
    refine ⟨fun h => by omega, fun _ => ?_, fun h => by omega⟩
    obtain ⟨-, x, rfl⟩ := hI.1 h1
    rw [hd, h1, ← slots_of m c _ x, b1_eq m c t h1]

/-- So does a forward point. -/
theorem Inv_f (c : Dev nD) (t : Fin cfg0.N) (h : 2 ≤ t.val % 4) (x15 x16 : Vec F S128x256 .f32)
    (x17 : Vec F S32x128x256 .f32) (hI : x17 = slots m c (t.val / 4)) :
    Inv m c (t.val + 1) (fAt m c t (fIn m c t) 16) x16 x17 := by
  refine ⟨fun h => by omega, fun h => by omega, fun h => ?_⟩
  rw [show (t.val + 1) / 4 = t.val / 4 by omega, f0_eq m c t (by omega)]
  exact ⟨rfl, hI⟩

theorem Inv_slots (c : Dev nD) (t : Fin cfg0.N) (h : 2 ≤ t.val % 4) (x15 x16 : Vec F S128x256 .f32)
    (x17 : Vec F S32x128x256 .f32) (hI : Inv m c t.val x15 x16 x17) : x17 = slots m c (t.val / 4) := by
  by_cases h2 : t.val % 4 = 2
  · exact hI.2.1 h2
  · exact (hI.2.2 (by omega)).2

/-- The forward states over point `t`'s block, on the forward points. -/
def fHere (c : Dev nD) (t : Fin cfg0.N) : ℕ → Vec F S128x256 .f32 := fAt m c t (fIn m c t)

/-- The output block of a forward point. -/
def outAt (c : Dev nD) (t : Fin cfg0.N) (h : 2 ≤ (grid0.coords t 2).val) : Vec F S1x4096x256 .bf16 :=
  fBlock (fRows (iblk m c 0 t) (iblk m c 1 t) (iblk m c 2 t) (iblk m c 3 t) (iblk m c 4 t) (iblk m c 5 t) (iblk m c 6 t)
    (iblk m c 7 t) (iblk m c 8 t) (fHere m c t) (fun n => ld (rSlot (grid0.coords t) h n) (slots m c (t.val / 4))))

/-- What the point leaves in the output's buffer; a backward point leaves nothing the claims read. -/
def outsAt (c : Dev nD) (t : Fin cfg0.N) : Vec F S1x4096x256 .bf16 :=
  if h : 2 ≤ (grid0.coords t 2).val then outAt m c t h else fBlock
    (fRows (iblk m c 0 t) (iblk m c 1 t) (iblk m c 2 t) (iblk m c 3 t) (iblk m c 4 t) (iblk m c 5 t) (iblk m c 6 t)
      (iblk m c 7 t) (iblk m c 8 t) (fHere m c t) (fun _ => k0_pay6 (b0 m c 0 0)))

end Cert.Ret
end
-- ==== Proof.Ret.RunB.lean ====
module

public import proofs.«01_k».proof.Proof.Gen.KernelIdeal.Frame
public import proofs.«01_k».proof.Proof.Ret.Pieces
public import Idealize.ShloMosaic.Lib.Tactic
public import Idealize.ShloMosaic.Lib.Tactic.Stretches
public import Idealize.ShloMosaic.Lib.VecWindow

@[expose] public section

set_option maxRecDepth 65536

noncomputable section

namespace Cert.Ret

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The backward phase of the body -/

set_option maxHeartbeats 4000000 in
theorem runB (c : Dev nD) (i : grid0.Coords) (h : (i 2).val < 2)
    (arg3 : Memref sig .tc .vmem S1x4096x128 .bf16) (harg3 : arg3.IsWhole) (arg4 : Memref sig .tc .vmem S1x4096x128 .bf16) (harg4 : arg4.IsWhole)
    (arg5 : Memref sig .tc .vmem S1x4096x256 .bf16) (harg5 : arg5.IsWhole) (arg6 : Memref sig .tc .vmem S1x4096x256 .bf16) (harg6 : arg6.IsWhole)
    (arg7 : Memref sig .tc .vmem S4096x128 .f32) (harg7 : arg7.IsWhole) (arg8 : Memref sig .tc .vmem S4096x128 .f32) (harg8 : arg8.IsWhole)
    (arg9 : Memref sig .tc .vmem S128x128 .bf16) (harg9 : arg9.IsWhole) (arg10 : Memref sig .tc .vmem S1x1x1 .f32) (harg10 : arg10.IsWhole)
    (arg11 : Memref sig .tc .vmem S1x1x1 .f32) (harg11 : arg11.IsWhole) (arg12 : Memref sig .tc .vmem S1x1x128x256 .f32) (harg12 : arg12.IsWhole)
    (arg13 : Memref sig .tc .vmem S1x1x128x256 .f32) (harg13 : arg13.IsWhole) (arg14 : Memref sig .tc .vmem S1x4096x256 .bf16) (harg14 : arg14.IsWhole)
    (arg15 : Memref sig .tc .vmem S128x256 .f32) (harg15 : arg15.IsWhole) (arg16 : Memref sig .tc .vmem S128x256 .f32) (harg16 : arg16.IsWhole)
    (arg17 : Memref sig .tc .vmem S32x128x256 .f32) (harg17 : arg17.IsWhole)
    (x4 : Vec F S1x4096x128 .bf16) (x5 : Vec F S1x4096x256 .bf16) (x7 x8 : Vec F S4096x128 .f32) (x9 : Vec F S128x128 .bf16)
    (x10 x11 : Vec F S1x1x1 .f32) (x13 : Vec F S1x1x128x256 .f32) (x16 : Vec F S128x256 .f32) (x17 : Vec F S32x128x256 .f32) (s0 : Vec F S128x256 .f32)
    (h0 : (i 2).val = 0 → s0 = k0_pay4 (ld rS0 x13)) (h0' : (i 2).val ≠ 0 → s0 = ld rS x16)
    (E : Set ℕ) (K : PUnit → sProp 𝕄) :
        iprop(owns (c : Thread nD τ) arg4 fullShare x4
            ∗ owns (c : Thread nD τ) arg5 fullShare x5
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg13 fullShare x13
            ∗ owns (c : Thread nD τ) arg16 fullShare x16
            ∗ owns (c : Thread nD τ) arg17 fullShare x17
            ∗ (iprop(owns (c : Thread nD τ) arg4 fullShare x4
            ∗ owns (c : Thread nD τ) arg5 fullShare x5
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg13 fullShare x13
            ∗ owns (c : Thread nD τ) arg16 fullShare ((bState x4 x5 x7 x8 x9 x11 s0) 16)
            ∗ owns (c : Thread nD τ) arg17 fullShare (bSlots (1 - (i 2).val) (bState x4 x5 x7 x8 x9 x11 s0) x17 16)) -∗ K ⟨⟩))
          ⊢ wp frame (wpE (defs₀ (F := F)) Variants.none c none) E (cc0_ret i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have h3 : k0_cond3 i = 1#1 := (cond3_iff i).mpr h
  have h4 : ¬ k0_cond4 i = 1#1 := fun hh => by have := (cond4_iff i).mp hh; omega
  haveI : Fact ((i 2).val < 2) := ⟨h⟩
  unfold bState
  simp only [ld_eq harg4 x4, ld_eq harg5 x5, ld_eq harg7 x7, ld_eq harg8 x8, ld_eq harg9 x9, ld_eq harg11 x11, ld_eq harg13 x13, ld_eq harg16 x16] at h0 h0' ⊢
  have hs : (i 2).val = 0 ∨ (i 2).val = 1 := by omega
  have h2 : ¬ (Scalar.cmpi .ne (Scalar.extui (Scalar.cmpi .eq (BitVec.ofNat 32 (i 2).val) 2#32) : BitVec 32) 0#32 = 1#1) := by
    rcases hs with hs | hs <;> rw [hs] <;> decide
  by_cases hs0 : (i 2).val = 0
  · have h1 : (Scalar.cmpi .ne (Scalar.extui (Scalar.cmpi .eq (BitVec.ofNat 32 (i 2).val) 0#32) : BitVec 32) 0#32 = 1#1) := by rw [hs0]; decide
    obtain rfl := h0 hs0
    unfold owns
    iintro ⟨⟨%f4, %hf4, H4⟩, ⟨%f5, %hf5, H5⟩, ⟨%f7, %hf7, H7⟩, ⟨%f8, %hf8, H8⟩, ⟨%f9, %hf9, H9⟩, ⟨%f10, %hf10, H10⟩, ⟨%f11, %hf11, H11⟩, ⟨%f13, %hf13, H13⟩, ⟨%f16, %hf16, H16⟩, ⟨%f17, %hf17, H17⟩, Hk⟩
    obtain rfl := harg4.eq_unread hf4
    obtain rfl := harg5.eq_unread hf5
    obtain rfl := harg7.eq_unread hf7
    obtain rfl := harg8.eq_unread hf8
    obtain rfl := harg9.eq_unread hf9
    obtain rfl := harg10.eq_unread hf10
    obtain rfl := harg11.eq_unread hf11
    obtain rfl := harg13.eq_unread hf13
    obtain rfl := harg16.eq_unread hf16
    obtain rfl := harg17.eq_unread hf17
    sl_unfold [cc0_ret]
    sl_exec_parts! (disch := first | sl_exact h1 | sl_exact h2 | sl_exact h3 | sl_exact h4)
    sl_step
    iapply Hk
    isplitl [H4]
    · iexists _; isplitr; · ipureintro; exact harg4.read_unread _
      iexact H4
    isplitl [H5]
    · iexists _; isplitr; · ipureintro; exact harg5.read_unread _
      iexact H5
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H13]
    · iexists _; isplitr; · ipureintro; exact harg13.read_unread _
      iexact H13
    isplitl [H16]
    · iexists _; isplitr; swap; · iexact H16
      ipureintro
      refine (View.read_writes_full _ _ _ _ _).trans ?_
      sl_open_run
      simp only [↓View.readCov_full]
      sl_open_pay
      rfl
    iexists _; isplitr; swap; · iexact H17
    ipureintro
    refine Eq.trans (congrArg (fun L => View.read (Elt F) arg17.view (arg17.view.writes (Elt F) (harg17.unread x17) L)) ?_) (bPieces_read i h harg17 x17 _ 16 (by omega))
    sl_open_run
    simp only [↓View.readCov_full]
    sl_open_pay
    rfl
  · have h1 : ¬ (Scalar.cmpi .ne (Scalar.extui (Scalar.cmpi .eq (BitVec.ofNat 32 (i 2).val) 0#32) : BitVec 32) 0#32 = 1#1) := by rw [hs.resolve_left hs0]; decide
    obtain rfl := h0' hs0
    unfold owns
    iintro ⟨⟨%f4, %hf4, H4⟩, ⟨%f5, %hf5, H5⟩, ⟨%f7, %hf7, H7⟩, ⟨%f8, %hf8, H8⟩, ⟨%f9, %hf9, H9⟩, ⟨%f10, %hf10, H10⟩, ⟨%f11, %hf11, H11⟩, ⟨%f13, %hf13, H13⟩, ⟨%f16, %hf16, H16⟩, ⟨%f17, %hf17, H17⟩, Hk⟩
    obtain rfl := harg4.eq_unread hf4
    obtain rfl := harg5.eq_unread hf5
    obtain rfl := harg7.eq_unread hf7
    obtain rfl := harg8.eq_unread hf8
    obtain rfl := harg9.eq_unread hf9
    obtain rfl := harg10.eq_unread hf10
    obtain rfl := harg11.eq_unread hf11
    obtain rfl := harg13.eq_unread hf13
    obtain rfl := harg16.eq_unread hf16
    obtain rfl := harg17.eq_unread hf17
    sl_unfold [cc0_ret]
    sl_exec_parts! (disch := first | sl_exact h1 | sl_exact h2 | sl_exact h3 | sl_exact h4)
    sl_step
    iapply Hk
    isplitl [H4]
    · iexists _; isplitr; · ipureintro; exact harg4.read_unread _
      iexact H4
    isplitl [H5]
    · iexists _; isplitr; · ipureintro; exact harg5.read_unread _
      iexact H5
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H13]
    · iexists _; isplitr; · ipureintro; exact harg13.read_unread _
      iexact H13
    isplitl [H16]
    · iexists _; isplitr; swap; · iexact H16
      ipureintro
      refine (View.read_writes_full _ _ _ _ _).trans ?_
      sl_open_run
      simp only [↓View.readCov_full]
      sl_open_pay
      rfl
    iexists _; isplitr; swap; · iexact H17
    ipureintro
    refine Eq.trans (congrArg (fun L => View.read (Elt F) arg17.view (arg17.view.writes (Elt F) (harg17.unread x17) L)) ?_) (bPieces_read i h harg17 x17 _ 16 (by omega))
    sl_open_run
    simp only [↓View.readCov_full]
    sl_open_pay
    rfl

end Cert.Ret
end
-- ==== Proof.Ret.RunF.lean ====
module

public import proofs.«01_k».proof.Proof.Gen.KernelIdeal.Frame
public import proofs.«01_k».proof.Proof.Ret.Pieces
public import Idealize.ShloMosaic.Lib.Tactic
public import Idealize.ShloMosaic.Lib.Tactic.Stretches
public import Idealize.ShloMosaic.Lib.VecWindow

@[expose] public section

set_option maxRecDepth 65536

noncomputable section

namespace Cert.Ret

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The forward phase of the body -/

set_option maxHeartbeats 4000000 in
theorem runF (c : Dev nD) (i : grid0.Coords) (h : 2 ≤ (i 2).val)
    (arg3 : Memref sig .tc .vmem S1x4096x128 .bf16) (harg3 : arg3.IsWhole) (arg4 : Memref sig .tc .vmem S1x4096x128 .bf16) (harg4 : arg4.IsWhole)
    (arg5 : Memref sig .tc .vmem S1x4096x256 .bf16) (harg5 : arg5.IsWhole) (arg6 : Memref sig .tc .vmem S1x4096x256 .bf16) (harg6 : arg6.IsWhole)
    (arg7 : Memref sig .tc .vmem S4096x128 .f32) (harg7 : arg7.IsWhole) (arg8 : Memref sig .tc .vmem S4096x128 .f32) (harg8 : arg8.IsWhole)
    (arg9 : Memref sig .tc .vmem S128x128 .bf16) (harg9 : arg9.IsWhole) (arg10 : Memref sig .tc .vmem S1x1x1 .f32) (harg10 : arg10.IsWhole)
    (arg11 : Memref sig .tc .vmem S1x1x1 .f32) (harg11 : arg11.IsWhole) (arg12 : Memref sig .tc .vmem S1x1x128x256 .f32) (harg12 : arg12.IsWhole)
    (arg13 : Memref sig .tc .vmem S1x1x128x256 .f32) (harg13 : arg13.IsWhole) (arg14 : Memref sig .tc .vmem S1x4096x256 .bf16) (harg14 : arg14.IsWhole)
    (arg15 : Memref sig .tc .vmem S128x256 .f32) (harg15 : arg15.IsWhole) (arg16 : Memref sig .tc .vmem S128x256 .f32) (harg16 : arg16.IsWhole)
    (arg17 : Memref sig .tc .vmem S32x128x256 .f32) (harg17 : arg17.IsWhole)
    (x3 x4 : Vec F S1x4096x128 .bf16) (x5 x6 : Vec F S1x4096x256 .bf16) (x7 x8 : Vec F S4096x128 .f32) (x9 : Vec F S128x128 .bf16)
    (x10 x11 : Vec F S1x1x1 .f32) (x12 : Vec F S1x1x128x256 .f32) (x15 : Vec F S128x256 .f32) (x17 : Vec F S32x128x256 .f32) (s0 : Vec F S128x256 .f32)
    (h0 : (i 2).val = 2 → s0 = k0_pay5 (ld rS0 x12)) (h0' : (i 2).val ≠ 2 → s0 = ld rS x15)
    (E : Set ℕ) (K : PUnit → sProp 𝕄) :
        iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ (∃ d, owns (c : Thread nD τ) arg14 fullShare d)
            ∗ owns (c : Thread nD τ) arg15 fullShare x15
            ∗ owns (c : Thread nD τ) arg17 fullShare x17
            ∗ (iprop(owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg14 fullShare (fBlock (fRows x3 x4 x5 x6 x7 x8 x9 x10 x11 (fState x4 x5 x7 x8 x9 x10 s0) (fun n => ld (rSlot i h n) x17)))
            ∗ owns (c : Thread nD τ) arg15 fullShare ((fState x4 x5 x7 x8 x9 x10 s0) 16)
            ∗ owns (c : Thread nD τ) arg17 fullShare x17) -∗ K ⟨⟩))
          ⊢ wp frame (wpE (defs₀ (F := F)) Variants.none c none) E (cc0_ret i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have h4 : k0_cond4 i = 1#1 := (cond4_iff i).mpr h
  have h3 : ¬ k0_cond3 i = 1#1 := fun hh => by have := (cond3_iff i).mp hh; omega
  haveI : Fact (2 ≤ (i 2).val) := ⟨h⟩
  unfold fState fRows
  simp only [ld_eq harg3 x3, ld_eq harg4 x4, ld_eq harg5 x5, ld_eq harg6 x6, ld_eq harg7 x7, ld_eq harg8 x8, ld_eq harg9 x9, ld_eq harg10 x10, ld_eq harg11 x11, ld_eq harg12 x12, ld_eq harg15 x15, ld_eq harg17 x17] at h0 h0' ⊢
  have hs : (i 2).val = 2 ∨ (i 2).val = 3 := by have := s_lt i; omega
  have h1 : ¬ (Scalar.cmpi .ne (Scalar.extui (Scalar.cmpi .eq (BitVec.ofNat 32 (i 2).val) 0#32) : BitVec 32) 0#32 = 1#1) := by
    rcases hs with hs | hs <;> rw [hs] <;> decide
  by_cases hs0 : (i 2).val = 2
  · have h2 : (Scalar.cmpi .ne (Scalar.extui (Scalar.cmpi .eq (BitVec.ofNat 32 (i 2).val) 2#32) : BitVec 32) 0#32 = 1#1) := by rw [hs0]; decide
    obtain rfl := h0 hs0
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d14, %f14, -, H14⟩, ⟨%f15, %hf15, H15⟩, ⟨%f17, %hf17, H17⟩, Hk⟩
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg15.eq_unread hf15
    obtain rfl := harg17.eq_unread hf17
    sl_unfold [cc0_ret]
    sl_exec_parts! (disch := first | sl_exact h1 | sl_exact h2 | sl_exact h3 | sl_exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H14]
    · iexists _; isplitr; swap; · iexact H14
      ipureintro
      refine Eq.trans (congrArg (fun L => View.read (Elt F) arg14.view (arg14.view.writes (Elt F) arg14.view.junk L)) ?_)
        (funext fun y => fPieces_read arg14.view arg14.view.junk _ y 16 (by omega) (y 1).isLt)
      sl_open_run
      simp only [↓View.readCov_full]
      sl_open_pay
      rfl
    isplitl [H15]
    · iexists _; isplitr; swap; · iexact H15
      ipureintro
      refine (View.read_writes_full _ _ _ _ _).trans ?_
      sl_open_run
      simp only [↓View.readCov_full]
      sl_open_pay
      rfl
    iexists _; isplitr; · ipureintro; exact harg17.read_unread _
    iexact H17
  · have h2 : ¬ (Scalar.cmpi .ne (Scalar.extui (Scalar.cmpi .eq (BitVec.ofNat 32 (i 2).val) 2#32) : BitVec 32) 0#32 = 1#1) := by rw [hs.resolve_left hs0]; decide
    obtain rfl := h0' hs0
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d14, %f14, -, H14⟩, ⟨%f15, %hf15, H15⟩, ⟨%f17, %hf17, H17⟩, Hk⟩
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg15.eq_unread hf15
    obtain rfl := harg17.eq_unread hf17
    sl_unfold [cc0_ret]
    sl_exec_parts! (disch := first | sl_exact h1 | sl_exact h2 | sl_exact h3 | sl_exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H14]
    · iexists _; isplitr; swap; · iexact H14
      ipureintro
      refine Eq.trans (congrArg (fun L => View.read (Elt F) arg14.view (arg14.view.writes (Elt F) arg14.view.junk L)) ?_)
        (funext fun y => fPieces_read arg14.view arg14.view.junk _ y 16 (by omega) (y 1).isLt)
      sl_open_run
      simp only [↓View.readCov_full]
      sl_open_pay
      rfl
    isplitl [H15]
    · iexists _; isplitr; swap; · iexact H15
      ipureintro
      refine (View.read_writes_full _ _ _ _ _).trans ?_
      sl_open_run
      simp only [↓View.readCov_full]
      sl_open_pay
      rfl
    iexists _; isplitr; · ipureintro; exact harg17.read_unread _
    iexact H17

end Cert.Ret
end
-- ==== Proof.Ret.Run.lean ====
/-
  The retention's run: from the two phases' runs of the body, the whole launch, over any arithmetic; and the frame claims.
-/
module

public import proofs.«01_k».proof.Proof.Ret.Dats
public import proofs.«01_k».proof.Proof.Ret.RunB
public import proofs.«01_k».proof.Proof.Ret.RunF

@[expose] public section

noncomputable section

namespace Cert.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The arrays as the region finds them; after the body each input's buffer at its block and the output's at `outsAt`;
    between the points the scratch buffers as `PhiS` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outsAt m c t
  Φ k := PhiS m c k.val
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outsAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

theorem Φ_castSucc (c : Dev nD) (t : Fin cfg0.N) : (dats m 0 c).Φ t.castSucc = PhiS m c t.val := rfl
theorem Φ_succ (c : Dev nD) (t : Fin cfg0.N) : (dats m 0 c).Φ t.succ = PhiS m c (t.val + 1) := rfl

/-! ## The body at a point -/

theorem body_obligation (c : Dev nD) : BodyObligation (dats (F := F) m 0 c) (defs₀ (F := F)) Variants.none () Set.univ := fun t => by
  have ht : t.val < 128 := lt_of_lt_of_eq t.isLt N_0
  have hs := coord2 t
  rw [bigSep_W0, bigSep_W0]
  sl_whnfR [defs₀, Defs.onTc]
  simp only [before0_0, before0_1, before0_2, before0_3, before0_4, before0_5, before0_6, before0_7, before0_8, before0_9, before0_10]
  rw [Φ_castSucc, Φ_succ,
    show (dats m 0 c).owesAt () t.succ = (dats m 0 c).owesAt () t.castSucc from rfl, after0_0, after0_1, after0_2, after0_3, after0_4, after0_5, after0_6, after0_7, after0_8, after0_9, after0_10, after0_11]
  by_cases hp : (grid0.coords t 2).val < 2
  · have hidle : idle0 11 (grid0.coords t) = true := by
      have := (cond4_iff (grid0.coords t)).not.2 (by omega)
      simp [this]
    have hfl := flush11 t (by omega)
    rw [hidle, hfl]
    dsimp only
    unfold PhiS
    iintro ⟨⟨%x15, %x16, %x17, %hI, S0, S1, S2, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (runB c (grid0.coords t) hp _ _ _ _ _ _ _ _ _ _ _ _ _ _ _ _ _ _ _ _ _ _ _ _ _ _ _ _ _ _ (iblk m c 1 t) (iblk m c 2 t) (iblk m c 4 t) (iblk m c 5 t)
      (iblk m c 6 t) (iblk m c 7 t) (iblk m c 8 t) (iblk m c 10 t) x16 x17
      (bIn m c t)
      (fun h => if_pos (by omega)) (fun h => (if_neg (by omega)).trans (congrArg kept (hI.1 (by omega)).1.symm)) Set.univ _)
    isplitl [H1]; · iexact H1
    isplitl [H2]; · iexact H2
    isplitl [H4]; · iexact H4
    isplitl [H5]; · iexact H5
    isplitl [H6]; · iexact H6
    isplitl [H7]; · iexact H7
    isplitl [H8]; · iexact H8
    isplitl [H10]; · iexact H10
    isplitl [S1]; · iexact S1
    isplitl [S2]; · iexact S2
    iintro ⟨H1, H2, H4, H5, H6, H7, H8, H10, S1, S2⟩
    isplitl [S0 S1 S2 Hr]
    · iexists _, _, _
      isplitr
      swap
      · isplitl [S0]; · iexact S0
        isplitl [S1]; · iexact S1
        isplitl [S2]; · iexact S2
        iexact Hr
      ipureintro
      exact Inv_b m c t _ hs hp x15 x16 x17 hI
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists _; iexact H11
  · have hidle : idle0 11 (grid0.coords t) = false := by
      have := (cond4_iff (grid0.coords t)).2 (by omega)
      simp [this]
    rw [hidle]
    dsimp only
    unfold PhiS
    iintro ⟨⟨%x15, %x16, %x17, %hI, S0, S1, S2, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    have hx17 := Inv_slots m c t (by omega) x15 x16 x17 hI
    iapply (runF c (grid0.coords t) (by omega) _ _ _ _ _ _ _ _ _ _ _ _ _ _ _ _ _ _ _ _ _ _ _ _ _ _ _ _ _ _ (iblk m c 0 t) (iblk m c 1 t) (iblk m c 2 t) (iblk m c 3 t)
      (iblk m c 4 t) (iblk m c 5 t) (iblk m c 6 t) (iblk m c 7 t) (iblk m c 8 t) (iblk m c 9 t) x15 x17
      (fIn m c t)
      (fun h => if_pos (by omega)) (fun h => (if_neg (by omega)).trans (congrArg kept (hI.2.2 (by omega)).1.symm)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H11]; · iexists _; iexact H11
    isplitl [S0]; · iexact S0
    isplitl [S2]; · iexact S2
    iintro ⟨H0, H1, H2, H3, H4, H5, H6, H7, H8, H9, H11, S0, S2⟩
    isplitl [S0 S1 S2 Hr]
    · iexists _, _, _
      isplitr
      swap
      · isplitl [S0]; · iexact S0
        isplitl [S1]; · iexact S1
        isplitl [S2]; · iexact S2
        iexact Hr
      ipureintro
      exact Inv_f m c t (by omega) x15 x16 x17 hx17
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    rw [show outsAt m c t = outAt m c t (by omega) from dif_pos _]
    unfold outAt
    rw [← hx17]
    iexact H11

/-! ## The launch -/

theorem Φ_in (c : Dev nD) : (ΦA spec0 c : sProp 𝕄) ⊢ PhiS m c 0 := by
  unfold ΦA PhiS
  rw [scopedRest0_eq]
  iintro ⟨⟨⟨%f0, S0⟩, ⟨%f1, S1⟩, ⟨%f2, S2⟩⟩, Hr⟩
  iexists f0, f1, f2
  isplitr
  · ipureintro; exact ⟨fun h => by omega, fun h => by omega, fun h => by omega⟩
  rw [owns_whole, owns_whole, owns_whole]
  isplitl [S0]; · iexact S0
  isplitl [S1]; · iexact S1
  isplitl [S2]; · iexact S2
  iexact Hr

theorem Φ_out (c : Dev nD) (k : ℕ) : (PhiS m c k : sProp 𝕄) ⊢ ΦA spec0 c := by
  unfold ΦA PhiS
  rw [scopedRest0_eq]
  simp only [owns_whole]
  iintro ⟨%f0, %f1, %f2, -, S0, S1, S2, Hr⟩
  isplitl [S0 S1 S2]
  · isplitl [S0]; · iexists _; iexact S0
    isplitl [S1]; · iexists _; iexact S1
    iexists _; iexact S2
  iexact Hr

set_option backward.isDefEq.respectTransparency.types false in
/-- From any memory with zero counters every weakly fair execution of @main ends, with every array of the pipeline at what
    the proof data say and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := fun _ _ => rfl)
    (hin := fun c => Φ_in m c) (hout := fun c => Φ_out m c _)

/-- The run leaves the arguments unchanged. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.Ret
end
-- ==== Proof.Ret.Words.lean ====
/-
  The retention's frame on the machine's words: the program's text is the one that `Ret.Run` runs over any arithmetic.
-/
module

public import proofs.«01_k».proof.Defs
public import proofs.«01_k».proof.Proof.Gen.Kernel
public import proofs.«01_k».proof.Proof.Ret.Run

@[expose] public section

noncomputable section

namespace Cert.Ret

open Idealize.ShloMosaic Idealize.SL.Sem

/-- The two bodies have one text. -/
theorem body_eq : @Cert.Kernel.cc0_ret Bits _ _ = @Cert.KernelIdeal.cc0_ret Bits _ _ := rfl

set_option maxHeartbeats 2000000 in
/-- So have the two tables of bodies. -/
theorem defs₀_eq : Cert.Kernel.defs₀ (F := Bits) = Cert.KernelIdeal.defs₀ (F := Bits) :=
  congrArg (Defs.onTc (τ := Cert.Kernel.τ) (Λ := Cert.Kernel.Λ₀)) (funext fun l => funext fun a => by
    match l, a with
    | 0, (t, s) => exact congrFun (congrFun (congrFun (congrFun (congrFun (congrFun (congrFun (congrFun (congrFun (congrFun
        (congrFun (congrFun (congrFun (congrFun (congrFun (congrFun (congrFun (congrFun (congrFun (congrFun (congrFun (congrFun
        (congrFun (congrFun (congrFun (congrFun (congrFun (congrFun (congrFun (congrFun (congrFun body_eq
        _) _) _) _) _) _) _) _) _) _) _) _) _) _) _) _) _) _) _) _) _) _) _) _) _) _) _) _) _) _) _)

theorem defs_eq : Cert.Kernel.defs (F := Bits) = Cert.KernelIdeal.defs (F := Bits) :=
  congrArg (Pipeline.defs (Cert.Kernel.pcfgs (F := Bits))) defs₀_eq

set_option maxHeartbeats 2000000 in
/-- The retention on the machine's words terminates and leaves its arguments unchanged. -/
theorem frame_kernel : Cert.quiescent_Kernel := fun m ρ _ => by
  rw [defs_eq]
  exact (θ_run Cert.KernelIdeal.defs _ _).mono (fun _ h => h) (Cert.Ret.frame (F := Bits) m ρ)

end Cert.Ret
end
-- ==== Proof.Ret.Real.lean ====
/-
  The retention over the reals: one decayed sum, cut at any place, and what a position reads of the two directions.
-/
module

public import Mathlib.Analysis.SpecialFunctions.Exp
public import Mathlib.Algebra.BigOperators.Intervals
public import Mathlib.Tactic.Ring
public import Mathlib.Tactic.Linarith

@[expose] public section

noncomputable section

namespace Cert.Ret

open Finset

/-- What the first `m` terms leave: the start decayed over `m` steps, and each term over the steps after it. -/
def acc (lam s0 : ℝ) (a : ℕ → ℝ) (m : ℕ) : ℝ :=
  Real.exp (lam * m) * s0 + ∑ j ∈ range m, Real.exp (lam * (m - 1 - j)) * a j

theorem acc_zero (lam s0 : ℝ) (a : ℕ → ℝ) : acc lam s0 a 0 = s0 := by simp [acc]

theorem acc_add (lam s0 : ℝ) (a : ℕ → ℝ) (m C : ℕ) :
    acc lam s0 a (m + C) = Real.exp (lam * C) * acc lam s0 a m + ∑ j ∈ range C, Real.exp (lam * (C - 1 - j)) * a (m + j) := by
  unfold acc
  rw [sum_range_add, mul_add, mul_sum, ← mul_assoc, ← Real.exp_add, add_assoc]
  congr 1
  · congr 2; push_cast; ring
  congr 1
  · refine sum_congr rfl fun j _ => ?_
    rw [← mul_assoc, ← Real.exp_add]; congr 2; push_cast; ring
  · refine sum_congr rfl fun j _ => ?_
    congr 2; push_cast; ring

/-- A position `i` of a chunk reads the state before the chunk and the chunk's terms up to its own. -/
theorem acc_fwd (lam s0 : ℝ) (a : ℕ → ℝ) (m C i : ℕ) (hi : i < C) :
    acc lam s0 a (m + i + 1) = Real.exp (lam * (i + 1)) * acc lam s0 a m
      + ∑ j ∈ range C, if j ≤ i then Real.exp (lam * (i - j)) * a (m + j) else 0 := by
  rw [add_assoc, acc_add, ← sum_filter]
  congr 1
  · push_cast; rfl
  · refine (sum_congr (by ext j; simp; omega) fun j _ => ?_)
    congr 2; push_cast; ring

/-- The terms read from the end of `N`. -/
def mir (N : ℕ) (a : ℕ → ℝ) : ℕ → ℝ := fun j => a (N - 1 - j)

/-- A chunk taken in from the end. -/
theorem acc_bwd_step (lam s0 : ℝ) (a : ℕ → ℝ) (N m C : ℕ) (h : m + C ≤ N) :
    acc lam s0 (mir N a) (N - m) = Real.exp (lam * C) * acc lam s0 (mir N a) (N - m - C)
      + ∑ j ∈ range C, Real.exp (lam * j) * a (m + j) := by
  obtain ⟨r, rfl⟩ : ∃ r, N = m + C + r := ⟨N - (m + C), by omega⟩
  rw [show m + C + r - m = r + C by omega, show r + C - C = r by omega, acc_add]
  congr 1
  rw [← sum_range_reflect]
  refine sum_congr rfl fun j hj => ?_
  have hj := mem_range.1 hj
  have : ((C - 1 - j : ℕ) : ℝ) = C - 1 - j := by rw [Nat.sub_sub, Nat.cast_sub (by omega)]; push_cast; ring
  rw [this, mir, show m + C + r - 1 - (r + (C - 1 - j)) = m + j by omega]
  congr 2; ring

/-- A position `i` of a chunk reads the state after the chunk and the chunk's terms from its own on. -/
theorem acc_bwd (lam s0 : ℝ) (a : ℕ → ℝ) (N m C i : ℕ) (hi : i < C) (h : m + C ≤ N) :
    acc lam s0 (mir N a) (N - (m + i)) = Real.exp (lam * (C - i)) * acc lam s0 (mir N a) (N - m - C)
      + ∑ j ∈ range C, if i ≤ j then Real.exp (lam * (j - i)) * a (m + j) else 0 := by
  rw [acc_bwd_step lam s0 a N (m + i) (C - i) (by omega), show N - (m + i) - (C - i) = N - m - C by omega,
    Nat.cast_sub hi.le]
  congr 1
  rw [← sum_filter]
  refine sum_bij' (fun j _ => i + j) (fun j _ => j - i) ?_ ?_ ?_ ?_ ?_
  · intro j hj; have := mem_range.1 hj; simp; omega
  · intro j hj; simp at hj ⊢; omega
  · intro j hj; simp
  · intro j hj; simp at hj; omega
  · intro j hj; push_cast; rw [add_assoc]; congr 2; ring

/-- What position `t` of `N` reads of both directions. -/
def reads (lf lb sf sb : ℝ) (a : ℕ → ℝ) (N t : ℕ) : ℝ := acc lf sf a (t + 1) + acc lb sb (mir N a) (N - t)

theorem reads_eq (lf lb sf sb : ℝ) (a : ℕ → ℝ) (N m C i : ℕ) (hi : i < C) (h : m + C ≤ N) :
    reads lf lb sf sb a N (m + i)
      = (∑ j ∈ range C, (if j < i then Real.exp (lf * (i - j)) else if i < j then Real.exp (lb * (j - i)) else 2) * a (m + j))
        + (Real.exp (lf * (i + 1)) * acc lf sf a m + Real.exp (lb * (C - i)) * acc lb sb (mir N a) (N - m - C)) := by
  rw [reads, acc_fwd lf sf a m C i hi, acc_bwd lb sb a N m C i hi h, add_add_add_comm, ← sum_add_distrib, add_comm]
  congr 1
  refine sum_congr rfl fun j _ => ?_
  rcases lt_trichotomy j i with hj | hj | hj
  · rw [if_pos hj.le, if_neg (by omega), if_pos hj, add_zero]
  · subst hj; simp; ring
  · rw [if_neg (by omega), if_pos hj.le, if_neg (by omega), if_pos hj, zero_add]

end Cert.Ret
end
-- ==== Proof.Ret.Chunk.lean ====
/-
  One chunk of the retention over the extended reals: the two state updates and the chunk's output rows, entry by entry.
-/
module

public import proofs.«01_k».proof.Proof.Ret.Spec
public import Idealize.ShloMosaic.Lib.Pointwise

@[expose] public section

set_option maxRecDepth 200000

noncomputable section

namespace Cert.Ret

open Cert.KernelIdeal Cert.KernelIdeal.Gen
open Idealize.ShloMosaic Idealize.ShloMosaic.TcCoe

variable (lf lb : FVec Ideal S1x1x1 .f32) (pm : FVec Ideal S128x128 .bf16) (q k : FVec Ideal S1x256x128 .bf16)
  (v g : FVec Ideal S1x256x256 .bf16) (co si : FVec Ideal S256x128 .f32) (s : FVec Ideal S128x256 .f32)
  (sb : FVec Ideal S1x128x256 .f32)

/-- The rotated row `i` of a chunk of queries or keys at coordinate `d`. -/
def rotC (x : FVec Ideal S1x256x128 .bf16) (i : Fin 256) (d : Fin 128) : EReal :=
  x (ix3 0 i d) * co (ix2 i d) + (∑ e : Fin 128, x (ix3 0 i e) * pm (ix2 e d)) * si (ix2 i d)

/-- A position of the chunk as a number. -/
def posC (i : Fin 256) : EReal := FloatOps.sitofp (F := Ideal) .f32 (BitVec.ofNat 32 i.val)

/-- The rotated and scaled key. -/
def keyC (j : Fin 256) (d : Fin 128) : EReal := rotC pm co si k j d * Ideal.ofBits .f32 0x3DB504F3#32

/-- The chunk's keys and values, key `j` weighted with `w j`, as an update of the state. -/
def updC (w : Fin 256 → EReal) (d : Fin 128) (x : Fin 256) : EReal :=
  ∑ j : Fin 256, keyC pm k co si j d * w j * v (ix3 0 j x)

theorem bStep_apply (d : Fin 128) (x : Fin 256) : (bStep (F := Ideal) lb pm k v co si s : FVec Ideal S128x256 .f32) (ix2 d x)
    = (s (ix2 d x) * Ideal.exp (lb (ix3 0 0 0) * Ideal.ofBits .f32 0x43800000#32)
      + updC pm k v co si (fun j => Ideal.exp (lb (ix3 0 0 0) * posC j)) d x : EReal) := by
  pointwise [bStep, k0_pay13, k0_pay10, k0_pay2, k0_pay12, k0_pay9, k0_pay3, updC, keyC, rotC, posC]

theorem fStep_apply (d : Fin 128) (x : Fin 256) : (fStep (F := Ideal) lf pm k v co si s : FVec Ideal S128x256 .f32) (ix2 d x)
    = (s (ix2 d x) * Ideal.exp (lf (ix3 0 0 0) * Ideal.ofBits .f32 0x43800000#32)
      + updC pm k v co si (fun j => Ideal.exp (lf (ix3 0 0 0) * (Ideal.ofBits .f32 0x437F0000#32 - posC j))) d x : EReal) := by
  pointwise [fStep, k0_pay74, k0_pay65, k0_pay1, k0_pay66, k0_pay70, k0_pay71, k0_pay3, updC, keyC, rotC, posC]

/-- How far row `i` is ahead of row `j` of the chunk. -/
def relC (i j : Fin 256) : EReal :=
  FloatOps.sitofp (F := Ideal) .f32 (IntOp.subi (BitVec.ofNat 32 i.val) (BitVec.ofNat 32 j.val))

/-- The weight with which row `i` of the chunk reads row `j` of it. -/
def dmatC (i j : Fin 256) : EReal :=
  Scalar.select (IntOp.cmpi .sgt (BitVec.ofNat 32 i.val) (BitVec.ofNat 32 j.val))
    (Ideal.exp (lf (ix3 0 0 0) * max (relC i j) (Ideal.ofBits .f32 0x00000000#32)))
    (Scalar.select (IntOp.cmpi .slt (BitVec.ofNat 32 i.val) (BitVec.ofNat 32 j.val))
      (Ideal.exp (lb (ix3 0 0 0) * max (Ideal.ofBits .f32 0x00000000#32 - relC i j) (Ideal.ofBits .f32 0x00000000#32)))
      (Ideal.ofBits .f32 0x40000000#32))

/-- What row `i` of the chunk reads: the chunk's own rows, and the two states. -/
def readC (i : Fin 256) (x : Fin 256) : EReal :=
  (∑ j : Fin 256, (∑ d : Fin 128, rotC pm co si q i d * keyC pm k co si j d) * dmatC lf lb i j * v (ix3 0 j x))
  + ((∑ d : Fin 128, rotC pm co si q i d * Ideal.exp (lf (ix3 0 0 0) * (posC i + Ideal.ofBits .f32 0x3F800000#32)) * s (ix2 d x))
  + (∑ d : Fin 128, rotC pm co si q i d * Ideal.exp (lb (ix3 0 0 0) * (Ideal.ofBits .f32 0x43800000#32 - posC i)) * sb (ix3 0 d x)))

/-- A row of reads `o` normalised and gated with `g`. -/
def readout (o : Fin 256 → EReal) (g : EReal) (x : Fin 256) : EReal :=
  o x * Ideal.rsqrt (Ideal.div (∑ y : Fin 256, o y * o y) (Ideal.ofBits .f32 0x43800000#32) + Ideal.ofBits .f32 0x358637BD#32)
    * (g * Ideal.div 1 (1 + Ideal.exp (0 - g)))

theorem fOut_apply (i : Fin 256) (x : Fin 256) : (fOut (F := Ideal) lf lb pm q k v g co si s sb : FVec Ideal S1x256x256 .bf16) (ix3 0 i x)
    = (readout (readC lf lb pm q k v co si s sb i) (g (ix3 0 i x)) x : EReal) := by
  pointwise [fOut, k0_pay76, k0_pay75, k0_pay71, k0_pay72, k0_pay62, k0_pay1, k0_pay2, k0_pay67, k0_pay68, k0_pay69, k0_pay70, k0_pay73,
    k0_pay63, k0_pay64, k0_pay3, readout, readC, dmatC, relC, keyC, rotC, posC]

end Cert.Ret
end
-- ==== Proof.Ret.Tables.lean ====
/-
  The retention's rotary tables as the region finds them: the row and the column of each position on the grid, their
  cosines and signed sines, and the exchange of the two halves of a coordinate group.
-/
module

public import proofs.«01_k».proof.Proof.Gen.KernelIdeal.Frame
public import Idealize.ShloMosaic.Lib.Pointwise

@[expose] public section

set_option maxRecDepth 200000

noncomputable section

namespace Cert.Ret

open Cert.KernelIdeal Cert.KernelIdeal.Gen
open Idealize.ShloMosaic Idealize.ShloMosaic.TcCoe Idealize.ShloMosaic.StableHlo

variable {F : FTy → Type} [FloatOps F]

/-- The frequencies. -/
def freqK : FVec F S32 .f32 := Host.powf (broadcastInDim S32 ![] bcast_S_S32 (constant S_ .f32 0x461C4000#32))
  (Host.divf (Host.negf (sitofp .f32 (iotaInDim S32 32 0))) (broadcastInDim S32 ![] bcast_S_S32 (constant S_ .f32 0x42000000#32)))

/-- The quotient, towards minus infinity, of each entry of `x` by `d`. -/
def fdivK (x : IVec S8192 32) (d : IVec S_ 32) : IVec S8192 32 :=
  select (andi (cmpi .ne (signi x) (broadcastInDim S8192 ![] bcast_S_S8192 (signi d)))
      (cmpi .ne (Host.remsi x (broadcastInDim S8192 ![] bcast_S_S8192 d)) (broadcastInDim S8192 ![] bcast_S_S8192 (constantI S_ 32 0#32))))
    (subi (Host.divsi x (broadcastInDim S8192 ![] bcast_S_S8192 d)) (broadcastInDim S8192 ![] bcast_S_S8192 (constantI S_ 32 1#32)))
    (Host.divsi x (broadcastInDim S8192 ![] bcast_S_S8192 d))

/-- The divisor of the remainder, one in place of zero. -/
def divisorK (d : IVec S_ 32) : IVec S_ 32 := select (cmpi .eq d (constantI S_ 32 0#32)) (constantI S_ 32 1#32) d

/-- The remainder, of the divisor's sign, of each entry of `x` by `d`. -/
def remK (x : IVec S8192 32) (d : IVec S_ 32) : IVec S8192 32 :=
  select (andi (cmpi .ne (cmpi .slt (Host.remsi x (broadcastInDim S8192 ![] bcast_S_S8192 (divisorK d))) (broadcastInDim S8192 ![] bcast_S_S8192 (constantI S_ 32 0#32)))
        (broadcastInDim S8192 ![] bcast_S_S8192 (cmpi .slt (divisorK d) (constantI S_ 32 0#32))))
      (cmpi .ne (Host.remsi x (broadcastInDim S8192 ![] bcast_S_S8192 (divisorK d))) (broadcastInDim S8192 ![] bcast_S_S8192 (constantI S_ 32 0#32))))
    (addi (Host.remsi x (broadcastInDim S8192 ![] bcast_S_S8192 (divisorK d))) (broadcastInDim S8192 ![] bcast_S_S8192 (divisorK d)))
    (Host.remsi x (broadcastInDim S8192 ![] bcast_S_S8192 (divisorK d)))

/-- The angles of each position, from its coordinate on the grid. -/
def angK (p : FVec F S8192 .f32) (f : FVec F S32 .f32) : FVec F S8192x32 .f32 :=
  mulf (broadcastInDim S8192x32 ![0, 1] bcast_S8192x1_S8192x32_0_1 (broadcastInDim S8192x1 ![0] bcast_S8192_S8192x1_0 p))
    (broadcastInDim S8192x32 ![0, 1] bcast_S1x32_S8192x32_0_1 (broadcastInDim S1x32 ![1] bcast_S32_S1x32_1 f))

/-- Four groups of columns side by side. -/
def colsK (a b c d : FVec F S8192x32 .f32) : FVec F S8192x128 .f32 :=
  concatenate S8192x128 1 [⟨S8192x32, a⟩, ⟨S8192x32, b⟩, ⟨S8192x32, c⟩, ⟨S8192x32, d⟩]
    concatenates_S8192x32_S8192x32_S8192x32_S8192x32_S8192x128_d1

/-- The exchange of the two halves of each group of coordinates. -/
def pmK : FVec F S128x128 .bf16 :=
  uitofp .bf16 (cmpi .eq (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (xori (broadcastInDim S1x128 ![1] bcast_S128_S1x128_1 (iotaInDim S128 32 0))
      (broadcastInDim S1x128 ![] bcast_S_S1x128 (constantI S_ 32 32#32)))))

section Lines

/- Each line of host operations, from the contents `W` before it. -/
variable (W : Valuation τ sig (Elt F))

theorem s4_cos : after hostOps0_4 W (Proc.devRef .tc main_v27) = colsK (Host.cos (angK (W (Proc.devRef .tc main_v10)) (W (Proc.devRef .tc main_v7)))) (Host.cos (angK (W (Proc.devRef .tc main_v10)) (W (Proc.devRef .tc main_v7))))
      (Host.cos (angK (sitofp .f32 (W (Proc.devRef .tc main_v11))) (W (Proc.devRef .tc main_v7)))) (Host.cos (angK (sitofp .f32 (W (Proc.devRef .tc main_v11))) (W (Proc.devRef .tc main_v7)))) := by
  simp only [hostOps0_4]
  after_results_simp
  rfl

theorem s4_sin : after hostOps0_4 W (Proc.devRef .tc main_v34) = colsK (Host.negf (Host.sin (angK (W (Proc.devRef .tc main_v10)) (W (Proc.devRef .tc main_v7))))) (Host.sin (angK (W (Proc.devRef .tc main_v10)) (W (Proc.devRef .tc main_v7))))
      (Host.negf (Host.sin (angK (sitofp .f32 (W (Proc.devRef .tc main_v11))) (W (Proc.devRef .tc main_v7))))) (Host.sin (angK (sitofp .f32 (W (Proc.devRef .tc main_v11))) (W (Proc.devRef .tc main_v7)))) := by
  simp only [hostOps0_4]
  after_results_simp
  rfl

theorem s4_pm : after hostOps0_4 W (Proc.devRef .tc main_v43) = pmK := by
  simp only [hostOps0_4]
  after_results_simp
  rfl

theorem s4_lf : after hostOps0_4 W (Proc.devRef .tc main_v44) = broadcastInDim S4x1x1 ![0] bcast_S4_S4x1x1_0 (W (Proc.devRef .tc main_v0)) := by
  simp only [hostOps0_4]
  after_results_simp

theorem s4_lb : after hostOps0_4 W (Proc.devRef .tc main_v45) = broadcastInDim S4x1x1 ![0] bcast_S4_S4x1x1_0 (W (Proc.devRef .tc main_v1)) := by
  simp only [hostOps0_4]
  after_results_simp

theorem s3_rem : after hostOps0_3 W (Proc.devRef .tc main_v11) = remK (W (Proc.devRef .tc main_v8)) (W (Proc.devRef .tc main_c_1)) := by
  simp only [hostOps0_3, TRef.binary, TRef.nullary, TRef.unary, TRef.ternary, TRef.toBuf, TRef.ofBuf, cast_eq]
  after_results_simp
  rfl

theorem s3_v10 : after hostOps0_3 W (Proc.devRef .tc main_v10) = (W (Proc.devRef .tc main_v10)) := by
  simp only [hostOps0_3, TRef.binary, TRef.nullary, TRef.unary, TRef.ternary, TRef.toBuf, TRef.ofBuf, cast_eq]
  after_results_simp

theorem s3_v7 : after hostOps0_3 W (Proc.devRef .tc main_v7) = (W (Proc.devRef .tc main_v7)) := by
  simp only [hostOps0_3, TRef.binary, TRef.nullary, TRef.unary, TRef.ternary, TRef.toBuf, TRef.ofBuf, cast_eq]
  after_results_simp

theorem s3_v0 : after hostOps0_3 W (Proc.devRef .tc main_v0) = (W (Proc.devRef .tc main_v0)) := by
  simp only [hostOps0_3, TRef.binary, TRef.nullary, TRef.unary, TRef.ternary, TRef.toBuf, TRef.ofBuf, cast_eq]
  after_results_simp

theorem s3_v1 : after hostOps0_3 W (Proc.devRef .tc main_v1) = (W (Proc.devRef .tc main_v1)) := by
  simp only [hostOps0_3, TRef.binary, TRef.nullary, TRef.unary, TRef.ternary, TRef.toBuf, TRef.ofBuf, cast_eq]
  after_results_simp

theorem s2_row : after hostOps0_2 W (Proc.devRef .tc main_v10) = sitofp .f32 (W (Proc.devRef .tc main_v9)) := by
  simp only [hostOps0_2]
  after_results_simp

theorem s2_c : after hostOps0_2 W (Proc.devRef .tc main_c_1) = constantI S_ 32 64#32 := by
  simp only [hostOps0_2]
  after_results_simp

theorem s2_v8 : after hostOps0_2 W (Proc.devRef .tc main_v8) = (W (Proc.devRef .tc main_v8)) := by
  simp only [hostOps0_2]
  after_results_simp

theorem s2_v7 : after hostOps0_2 W (Proc.devRef .tc main_v7) = (W (Proc.devRef .tc main_v7)) := by
  simp only [hostOps0_2]
  after_results_simp

theorem s2_v0 : after hostOps0_2 W (Proc.devRef .tc main_v0) = (W (Proc.devRef .tc main_v0)) := by
  simp only [hostOps0_2]
  after_results_simp

theorem s2_v1 : after hostOps0_2 W (Proc.devRef .tc main_v1) = (W (Proc.devRef .tc main_v1)) := by
  simp only [hostOps0_2]
  after_results_simp

theorem s1_div : after hostOps0_1 W (Proc.devRef .tc main_v9) = fdivK (W (Proc.devRef .tc main_v8)) (W (Proc.devRef .tc main_c)) := by
  simp only [hostOps0_1, TRef.binary, TRef.nullary, TRef.unary, TRef.ternary, TRef.toBuf, TRef.ofBuf, cast_eq]
  after_results_simp
  rfl

theorem s1_v8 : after hostOps0_1 W (Proc.devRef .tc main_v8) = (W (Proc.devRef .tc main_v8)) := by
  simp only [hostOps0_1, TRef.binary, TRef.nullary, TRef.unary, TRef.ternary, TRef.toBuf, TRef.ofBuf, cast_eq]
  after_results_simp

theorem s1_v7 : after hostOps0_1 W (Proc.devRef .tc main_v7) = (W (Proc.devRef .tc main_v7)) := by
  simp only [hostOps0_1, TRef.binary, TRef.nullary, TRef.unary, TRef.ternary, TRef.toBuf, TRef.ofBuf, cast_eq]
  after_results_simp

theorem s1_v0 : after hostOps0_1 W (Proc.devRef .tc main_v0) = (W (Proc.devRef .tc main_v0)) := by
  simp only [hostOps0_1, TRef.binary, TRef.nullary, TRef.unary, TRef.ternary, TRef.toBuf, TRef.ofBuf, cast_eq]
  after_results_simp

theorem s1_v1 : after hostOps0_1 W (Proc.devRef .tc main_v1) = (W (Proc.devRef .tc main_v1)) := by
  simp only [hostOps0_1, TRef.binary, TRef.nullary, TRef.unary, TRef.ternary, TRef.toBuf, TRef.ofBuf, cast_eq]
  after_results_simp

theorem s0_pos : after hostOps0 W (Proc.devRef .tc main_v8) = iotaInDim S8192 32 0 := by
  simp only [hostOps0]
  after_results_simp

theorem s0_c : after hostOps0 W (Proc.devRef .tc main_c) = constantI S_ 32 64#32 := by
  simp only [hostOps0]
  after_results_simp

theorem s0_freq : after hostOps0 W (Proc.devRef .tc main_v7) = freqK := by
  simp only [hostOps0]
  after_results_simp
  rfl

theorem s0_lf : after hostOps0 W (Proc.devRef .tc main_v0) = shapeCast S4 (W (Proc.devRef .tc main_arg1)) shapeCasts_S1x4_S4 := by
  simp only [hostOps0]
  after_results_simp
  rfl

theorem s0_lb : after hostOps0 W (Proc.devRef .tc main_v1) = shapeCast S4 (W (Proc.devRef .tc main_arg2)) shapeCasts_S1x4_S4 := by
  simp only [hostOps0]
  after_results_simp
  rfl

end Lines

variable (m : (ℓ : Loc nD τ sig) → Buf (Elt F) ℓ) (c : Dev nD)

/-- The row of each position on the grid. -/
def rowK : FVec F S8192 .f32 := sitofp .f32 (fdivK (iotaInDim S8192 32 0) (constantI S_ 32 64#32))
/-- The column of each position on the grid. -/
def colK : FVec F S8192 .f32 := sitofp .f32 (remK (iotaInDim S8192 32 0) (constantI S_ 32 64#32))

theorem V_lines (b : Ref sig .tc) : V m c b = after hostOps0_4 (after hostOps0_3 (after hostOps0_2 (after hostOps0_1
    (after hostOps0 (fun b => m (c, b)))))) (Proc.devRef .tc b) := by
  simp only [V, List.flatten_cons, List.flatten_nil, List.append_nil, after_append]

theorem V_cos : V m c main_v27 = colsK (Host.cos (angK rowK freqK)) (Host.cos (angK rowK freqK)) (Host.cos (angK colK freqK)) (Host.cos (angK colK freqK)) := by
  rw [V_lines, s4_cos, s3_v10, s3_rem, s3_v7, s2_row, s2_v8, s2_c, s2_v7, s1_div, s1_v8, s1_v7, s0_pos, s0_c, s0_freq]
  rfl

theorem V_sin : V m c main_v34 = colsK (Host.negf (Host.sin (angK rowK freqK))) (Host.sin (angK rowK freqK)) (Host.negf (Host.sin (angK colK freqK))) (Host.sin (angK colK freqK)) := by
  rw [V_lines, s4_sin, s3_v10, s3_rem, s3_v7, s2_row, s2_v8, s2_c, s2_v7, s1_div, s1_v8, s1_v7, s0_pos, s0_c, s0_freq]
  rfl

theorem V_pm : V m c main_v43 = pmK := by
  rw [V_lines, s4_pm]

theorem V_lf : V m c main_v44 = broadcastInDim S4x1x1 ![0] bcast_S4_S4x1x1_0 (shapeCast S4 (m ((c : Thread nD τ).loc main_arg1)) shapeCasts_S1x4_S4) := by
  rw [V_lines, s4_lf, s3_v0, s2_v0, s1_v0, s0_lf]

theorem V_lb : V m c main_v45 = broadcastInDim S4x1x1 ![0] bcast_S4_S4x1x1_0 (shapeCast S4 (m ((c : Thread nD τ).loc main_arg2)) shapeCasts_S1x4_S4) := by
  rw [V_lines, s4_lb, s3_v1, s2_v1, s1_v1, s0_lb]

end Cert.Ret
end
-- ==== Proof.Ret.Grid.lean ====
/-
  The integer arithmetic of the retention's rotary tables: the row and the column of a token on the grid of 64 columns, and
  the coordinate that turns together with another.
-/
module

public import Idealize.ShloMosaic.Lib.Pointwise

@[expose] public section

set_option maxRecDepth 200000

namespace Cert.Ret

open Idealize.ShloMosaic

theorem toInt_subi : ∀ i j : Fin 256, (IntOp.subi (BitVec.ofNat 32 i.val) (BitVec.ofNat 32 j.val)).toInt = (i.val : ℤ) - j.val := by
  decide +kernel

theorem row_word : ∀ i : Fin 8192, (Scalar.select
    (IntOp.andi
      (IntOp.cmpi CmpIPredicate.ne
        (if BitVec.ofNat 32 i.val = 0 then 0 else if (BitVec.ofNat 32 i.val).msb = true then -1 else 1 : BitVec 32)
        (if 64#32 = 0 then 0 else if (64#32).msb = true then -1 else 1 : BitVec 32))
      (IntOp.cmpi CmpIPredicate.ne (IntOp.remsi ArithUnit.host (BitVec.ofNat 32 i.val) 64#32) 0#32))
    (IntOp.subi (IntOp.divsi ArithUnit.host (BitVec.ofNat 32 i.val) 64#32) 1#32)
    (IntOp.divsi ArithUnit.host (BitVec.ofNat 32 i.val) 64#32)) = BitVec.ofNat 32 (i.val / 64) := by
  decide +kernel

theorem col_word : ∀ i : Fin 8192, (Scalar.select
    (IntOp.andi
      (IntOp.cmpi CmpIPredicate.ne
        (IntOp.cmpi CmpIPredicate.slt
          (IntOp.remsi ArithUnit.host (BitVec.ofNat 32 i.val) (Scalar.select (IntOp.cmpi CmpIPredicate.eq 64#32 0#32) 1#32 64#32)) 0#32)
        (IntOp.cmpi CmpIPredicate.slt (Scalar.select (IntOp.cmpi CmpIPredicate.eq 64#32 0#32) 1#32 64#32) 0#32))
      (IntOp.cmpi CmpIPredicate.ne
        (IntOp.remsi ArithUnit.host (BitVec.ofNat 32 i.val) (Scalar.select (IntOp.cmpi CmpIPredicate.eq 64#32 0#32) 1#32 64#32)) 0#32))
    (IntOp.addi (IntOp.remsi ArithUnit.host (BitVec.ofNat 32 i.val) (Scalar.select (IntOp.cmpi CmpIPredicate.eq 64#32 0#32) 1#32 64#32))
      (Scalar.select (IntOp.cmpi CmpIPredicate.eq 64#32 0#32) 1#32 64#32))
    (IntOp.remsi ArithUnit.host (BitVec.ofNat 32 i.val) (Scalar.select (IntOp.cmpi CmpIPredicate.eq 64#32 0#32) 1#32 64#32)))
      = BitVec.ofNat 32 (i.val % 64) := by
  decide +kernel

theorem sgt_word : ∀ i j : Fin 256, IntOp.cmpi .sgt (BitVec.ofNat 32 i.val) (BitVec.ofNat 32 j.val) = if j.val < i.val then 1#1 else 0#1 := by
  decide +kernel
theorem slt_word : ∀ i j : Fin 256, IntOp.cmpi .slt (BitVec.ofNat 32 i.val) (BitVec.ofNat 32 j.val) = if i.val < j.val then 1#1 else 0#1 := by
  decide +kernel

/-- The coordinate that turns together with `d`. -/
def sw (d : Fin 128) : Fin 128 := ⟨if d.val % 64 < 32 then d.val + 32 else d.val - 32, by split_ifs <;> omega⟩

theorem pm_word : ∀ e d : Fin 128, IntOp.cmpi CmpIPredicate.eq (BitVec.ofNat 32 e.val) (IntOp.xori (BitVec.ofNat 32 d.val) 32#32)
    = if e = sw d then 1#1 else 0#1 := by
  decide +kernel

end Cert.Ret
end
-- ==== Proof.Ret.Entry.lean ====
/-
  The retention's rotary tables entry by entry over the extended reals, and the rotation of a row of queries or keys.
-/
module

public import proofs.«01_k».proof.Proof.Ret.Tables
public import proofs.«01_k».proof.Proof.Ret.Chunk
public import proofs.«01_k».proof.Proof.Ret.Grid
public import Idealize.ShloMosaic.Lib.Pointwise

@[expose] public section

set_option maxRecDepth 200000

noncomputable section

namespace Cert.Ret

open Cert.KernelIdeal Cert.KernelIdeal.Gen
open Idealize.ShloMosaic Idealize.ShloMosaic.TcCoe Idealize.ShloMosaic.StableHlo

/-! ## Numbers -/

theorem ofBits_10000 : Ideal.ofBits .f32 0x461C4000#32 = ((10000 : ℝ) : EReal) := by
  simp [Ideal.ofBits, Ideal.ieee, -EReal.coe_mul]; norm_num
theorem ofBits_32 : Ideal.ofBits .f32 0x42000000#32 = ((32 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_255 : Ideal.ofBits .f32 0x437F0000#32 = ((255 : ℝ) : EReal) := by
  simp [Ideal.ofBits, Ideal.ieee, -EReal.coe_mul]; norm_num
theorem ofBits_8192 : Ideal.ofBits .f32 0x46000000#32 = ((8192 : ℝ) : EReal) := by
  simp [Ideal.ofBits, Ideal.ieee, -EReal.coe_mul]; norm_num
theorem ofBits_1 : Ideal.ofBits .f32 0x3F800000#32 = ((1 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_0 : Ideal.ofBits .f32 0x00000000#32 = ((0 : ℝ) : EReal) := by
  simp [Ideal.ofBits, Ideal.ieee]

/-- The keys' scale, `1 / √128` rounded. -/
def scl : ℝ := (Ideal.ofBits .f32 0x3DB504F3#32).toReal

theorem ofBits_scl : Ideal.ofBits .f32 0x3DB504F3#32 = (scl : EReal) := by
  refine (EReal.coe_toReal ?_ ?_).symm <;> simp [Ideal.ofBits, Ideal.ieee, -EReal.coe_mul]

/-- A small natural number as a float is the number. -/
theorem sitofp_nat (n : ℕ) (h : n < 2 ^ 31) : FloatOps.sitofp (F := Ideal) .f32 (BitVec.ofNat 32 n) = ((n : ℝ) : EReal) := by
  show (((BitVec.ofNat 32 n).toInt : ℝ) : EReal) = _
  rw [show (BitVec.ofNat 32 n).toInt = (n : ℤ) by
    rw [BitVec.toInt_eq_toNat_of_lt] <;> rw [BitVec.toNat_ofNat, Nat.mod_eq_of_lt (by omega)]
    omega]
  norm_cast

theorem posC_eq (i : Fin 256) : posC i = ((i.val : ℝ) : EReal) := sitofp_nat _ (by omega)

theorem relC_eq (i j : Fin 256) : relC i j = (((i.val : ℝ) - j.val : ℝ) : EReal) := by
  show (((IntOp.subi (BitVec.ofNat 32 i.val) (BitVec.ofNat 32 j.val)).toInt : ℝ) : EReal) = _
  rw [toInt_subi]; norm_cast

/-! ## The grid's rows and columns -/

theorem row_at (i : Fin 8192) : (rowK (F := Ideal) (ix1 i) : EReal) = (((i.val / 64 : ℕ) : ℝ) : EReal) := by
  pointwise [rowK, fdivK]
  exact (congrArg (fun w : BitVec 32 => FloatOps.sitofp (F := Ideal) .f32 w) (row_word i)).trans (sitofp_nat _ (by omega))

theorem col_at (i : Fin 8192) : (colK (F := Ideal) (ix1 i) : EReal) = (((i.val % 64 : ℕ) : ℝ) : EReal) := by
  pointwise [colK, remK, divisorK]
  exact (congrArg (fun w : BitVec 32 => FloatOps.sitofp (F := Ideal) .f32 w) (col_word i)).trans (sitofp_nat _ (by omega))

/-! ## Frequencies, angles, cosines and sines -/

/-- The frequency of coordinate `j` of a group. -/
def frq (j : Fin 32) : ℝ := Real.rpow 10000 (-(j.val : ℝ) * 32⁻¹)

theorem frq_eq (j : Fin 32) : Ideal.pow (Ideal.ofBits FTy.f32 1176256512#32)
    (Ideal.div (-FloatOps.sitofp (F := Ideal) FTy.f32 (BitVec.ofNat 32 j.val)) (Ideal.ofBits FTy.f32 1107296256#32)) = ((frq j : ℝ) : EReal) := by
  rw [ofBits_10000, ofBits_32, sitofp_nat _ (by omega), ← EReal.coe_neg, Ideal.div, if_neg (by norm_num), ← EReal.coe_inv, ← EReal.coe_mul,
    Ideal.pow_coe_coe]
  rfl

theorem freq_at (j : Fin 32) : (freqK (F := Ideal) (ix1 j) : EReal) = (frq j : EReal) := by
  pointwise [freqK]
  exact frq_eq j

/-- The angle by which the token at `i` turns coordinate `d`: the first half of the coordinates by its row, the second by
    its column. -/
def ang (i : Fin 8192) (d : Fin 128) : ℝ :=
  (if d.val < 64 then ((i.val / 64 : ℕ) : ℝ) else ((i.val % 64 : ℕ) : ℝ)) * frq ⟨d.val % 32, by omega⟩

theorem ang_lo (i : Fin 8192) (d : Fin 128) (j : Fin 32) (h : d.val < 64) (hj : j.val = d.val % 32) :
    ang i d = ((i.val / 64 : ℕ) : ℝ) * frq j := by
  rw [ang, if_pos h, show j = ⟨d.val % 32, by omega⟩ from Fin.ext hj]
theorem ang_hi (i : Fin 8192) (d : Fin 128) (j : Fin 32) (h : ¬ d.val < 64) (hj : j.val = d.val % 32) :
    ang i d = ((i.val % 64 : ℕ) : ℝ) * frq j := by
  rw [ang, if_neg h, show j = ⟨d.val % 32, by omega⟩ from Fin.ext hj]

/-- The cosine. -/
def cosR (i : Fin 8192) (d : Fin 128) : ℝ := Real.cos (ang i d)
/-- The sine, signed: the first half of each group of coordinates takes it negated. -/
def sinR (i : Fin 8192) (d : Fin 128) : ℝ := if d.val % 64 < 32 then -Real.sin (ang i d) else Real.sin (ang i d)

variable (m : (ℓ : Loc nD τ sig) → Buf (Elt Ideal) ℓ)

theorem colsK_at (a b e f : FVec Ideal S8192x32 .f32) (i : Fin 8192) (d : Fin 128) : (colsK a b e f (ix2 i d) : EReal)
    = if d.val < 32 then a (ix2 i ⟨d.val % 32, by omega⟩) else if d.val < 64 then b (ix2 i ⟨d.val % 32, by omega⟩)
      else if d.val < 96 then e (ix2 i ⟨d.val % 32, by omega⟩) else f (ix2 i ⟨d.val % 32, by omega⟩) := by
  have hd := d.isLt
  pointwise [colsK]
  by_cases h1 : d.val < 32
  · rw [dif_pos h1, if_pos h1]
    exact congrArg (fun j : Fin 32 => a (ix2 i j)) (Fin.ext (by show d.val = d.val % 32; omega))
  rw [dif_neg h1, if_neg h1]
  by_cases h2 : d.val < 64
  · rw [dif_pos (by omega), if_pos h2]
    exact congrArg (fun j : Fin 32 => b (ix2 i j)) (Fin.ext (by show d.val - 32 = d.val % 32; omega))
  rw [dif_neg (by omega), if_neg h2]
  by_cases h3 : d.val < 96
  · rw [dif_pos (by omega), if_pos h3]
    exact congrArg (fun j : Fin 32 => e (ix2 i j)) (Fin.ext (by show d.val - 32 - 32 = d.val % 32; omega))
  rw [dif_neg (by omega), if_neg h3]
  exact congrArg (fun j : Fin 32 => f (ix2 i j)) (Fin.ext (by show d.val - 32 - 32 - 32 = d.val % 32; omega))

theorem cosK_at (p : FVec Ideal S8192 .f32) (i : Fin 8192) (j : Fin 32) : (Host.cos (angK p freqK) (ix2 i j) : EReal)
    = Ideal.cos (p (ix1 i) * (frq j : EReal)) := by
  pointwise [angK]
  rw [freq_at]

theorem sinK_at (p : FVec Ideal S8192 .f32) (i : Fin 8192) (j : Fin 32) : (Host.sin (angK p freqK) (ix2 i j) : EReal)
    = Ideal.sin (p (ix1 i) * (frq j : EReal)) := by
  pointwise [angK]
  rw [freq_at]

theorem sinK_neg_at (p : FVec Ideal S8192 .f32) (i : Fin 8192) (j : Fin 32) : (Host.negf (Host.sin (angK p freqK)) (ix2 i j) : EReal)
    = -Ideal.sin (p (ix1 i) * (frq j : EReal)) := by
  pointwise [angK]
  rw [freq_at]

theorem cos_at (c : Dev nD) (i : Fin 8192) (d : Fin 128) : (V m c main_v27 : FVec Ideal S8192x128 .f32) (ix2 i d) = (cosR i d : EReal) := by
  rw [V_cos, colsK_at]
  simp only [cosK_at, row_at, col_at, ← EReal.coe_mul, Ideal.cos_coe, cosR, ang]
  by_cases h2 : d.val < 64
  · simp only [if_pos h2, ite_self]
  · simp only [if_neg h2, if_neg (show ¬ d.val < 32 by omega), ite_self]

theorem sin_at (c : Dev nD) (i : Fin 8192) (d : Fin 128) : (V m c main_v34 : FVec Ideal S8192x128 .f32) (ix2 i d) = (sinR i d : EReal) := by
  have hd := d.isLt
  rw [V_sin, colsK_at]
  simp only [sinK_at, sinK_neg_at, row_at, col_at, ← EReal.coe_mul, Ideal.sin_coe, ← EReal.coe_neg, sinR, ang]
  by_cases h2 : d.val < 64
  · by_cases h1 : d.val < 32
    · simp only [if_pos h2, if_pos h1, if_pos (show d.val % 64 < 32 by omega)]
    · simp only [if_pos h2, if_neg h1, if_neg (show ¬ d.val % 64 < 32 by omega)]
  · by_cases h3 : d.val < 96
    · simp only [if_neg h2, if_pos h3, if_neg (show ¬ d.val < 32 by omega), if_pos (show d.val % 64 < 32 by omega)]
    · simp only [if_neg h2, if_neg h3, if_neg (show ¬ d.val < 32 by omega), if_neg (show ¬ d.val % 64 < 32 by omega)]

/-! ## The exchange of the two halves of a group, and the rotation -/

theorem pm_at (c : Dev nD) (e d : Fin 128) : (V m c main_v43 : FVec Ideal S128x128 .bf16) (ix2 e d) = (if e = sw d then 1 else 0 : EReal) := by
  rw [V_pm]
  pointwise [pmK]
  rw [pm_word]
  show (((if e = sw d then 1#1 else 0#1 : BitVec 1).toNat : ℝ) : EReal) = _
  split_ifs <;> simp

/-- The rotation of a row `x` of queries or keys, for the token at `i`. -/
def rotE (x : Fin 128 → EReal) (i : Fin 8192) (d : Fin 128) : EReal := x d * (cosR i d : EReal) + x (sw d) * (sinR i d : EReal)
def rotR (x : Fin 128 → ℝ) (i : Fin 8192) (d : Fin 128) : ℝ := x d * cosR i d + x (sw d) * sinR i d

theorem rotE_coe (x : Fin 128 → ℝ) (i : Fin 8192) (d : Fin 128) : rotE (fun e => (x e : EReal)) i d = (rotR x i d : EReal) := by
  simp only [rotE, rotR, EReal.coe_add, EReal.coe_mul]

theorem sum_pm (x : Fin 128 → EReal) (d : Fin 128) : ∑ e : Fin 128, x e * (if e = sw d then 1 else 0) = x (sw d) := by
  rw [Finset.sum_eq_single (sw d)]
  · simp
  · intro e _ h; simp [h]
  · simp

end Cert.Ret
end
-- ==== Proof.Ret.Blocks.lean ====
/-
  What the retention's windows hold at a grid point, entry by entry: the token, the head and the coordinates of each.
-/
module

public import proofs.«01_k».proof.Proof.Ret.Dats
public import Idealize.ShloMosaic.Lib.Pipeline.ValueKit
public import Idealize.ShloMosaic.Lib.Pointwise

@[expose] public section

set_option maxRecDepth 200000

noncomputable section

namespace Cert.Ret

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

theorem lt_128 : t.val < 128 := lt_of_lt_of_eq t.isLt N_0

/-- The half of the sequence a point works on. -/
def half : ℕ := if t.val % 4 < 2 then 1 - t.val % 4 else t.val % 4 - 2

theorem half_le : half t ≤ 1 := by unfold half; split_ifs <;> omega

/-- Where each window's block lies, at every grid point. -/
theorem idx : ∀ t : Fin cfg0.N, win0_0.index t = ![t.val / 16, t.val % 4 - 2, 24 + t.val / 4 % 4]
    ∧ win0_1.index t = ![t.val / 16, half t, 28 + t.val / 4 % 4]
    ∧ win0_2.index t = ![t.val / 16, half t, 16 + t.val / 4 % 4]
    ∧ win0_3.index t = ![t.val / 16, t.val % 4 - 2, 20 + t.val / 4 % 4]
    ∧ win0_4.index t = ![half t, 0] ∧ win0_5.index t = ![half t, 0] ∧ win0_6.index t = ![0, 0]
    ∧ win0_7.index t = ![t.val / 4 % 4, 0, 0] ∧ win0_8.index t = ![t.val / 4 % 4, 0, 0]
    ∧ win0_9.index t = ![t.val / 16, t.val / 4 % 4, 0, 0] ∧ win0_10.index t = ![t.val / 16, t.val / 4 % 4, 0, 0]
    ∧ win0_11.index t = ![t.val / 16, t.val % 4 - 2, t.val / 4 % 4] :=
  (by decide +kernel : ∀ t : Fin grid0.N, _)

/-- The batch row and the head of a point. -/
def bat : Fin 8 := ⟨t.val / 16, by have := lt_128 t; omega⟩
def hd : Fin 4 := ⟨t.val / 4 % 4, by omega⟩
/-- The token at row `i` of chunk `n` of the point's half. -/
def tok (n : Fin 16) (i : Fin 256) : Fin 8192 := ⟨4096 * half t + 256 * n.val + i.val, by have := half_le t; omega⟩

def kB (n : Fin 16) : FVec Ideal S1x256x128 .bf16 := ld (rK n) (iblk m c 1 t)
def vB (n : Fin 16) : FVec Ideal S1x256x256 .bf16 := ld (rV n) (iblk m c 2 t)
def qB (n : Fin 16) : FVec Ideal S1x256x128 .bf16 := ld (rK n) (iblk m c 0 t)
def gB (n : Fin 16) : FVec Ideal S1x256x256 .bf16 := ld (rV n) (iblk m c 3 t)
def coB (n : Fin 16) : FVec Ideal S256x128 .f32 := ld (rC n) (iblk m c 4 t)
def siB (n : Fin 16) : FVec Ideal S256x128 .f32 := ld (rC n) (iblk m c 5 t)
def pmB : FVec Ideal S128x128 .bf16 := ld rPm (iblk m c 6 t)
def lfB : FVec Ideal S1x1x1 .f32 := ld r1 (iblk m c 7 t)
def lbB : FVec Ideal S1x1x1 .f32 := ld r1 (iblk m c 8 t)

/-- The layer's packed projections, the argument the retention takes its queries, keys, values and gates from. -/
def pArr : FVec Ideal S8x8192x8192 .bf16 := m ((c : Thread nD τ).loc main_arg0)

theorem kB_at (n : Fin 16) (i : Fin 256) (d : Fin 128) : kB m c t n (ix3 0 i d)
    = pArr m c (ix3 (bat t) (tok t n i) ⟨3584 + 128 * (hd t).val + d.val, by have := (hd t).isLt; omega⟩) := by
  unfold kB ld rK pArr
  rw [← V_main_arg0 m c]
  blk_point [iblk, V, idx t]
  · rfl
  · show half t * 4096 + (256 * n.val + 1 * i.val) = 4096 * half t + 256 * n.val + i.val; omega
  · show (28 + t.val / 4 % 4) * 128 + (0 + 1 * d.val) = 3584 + 128 * (t.val / 4 % 4) + d.val; omega

theorem vB_at (n : Fin 16) (i x : Fin 256) : vB m c t n (ix3 0 i x)
    = pArr m c (ix3 (bat t) (tok t n i) ⟨4096 + 256 * (hd t).val + x.val, by have := (hd t).isLt; omega⟩) := by
  unfold vB ld rV pArr
  rw [← V_main_arg0 m c]
  blk_point [iblk, V, idx t]
  · rfl
  · show half t * 4096 + (256 * n.val + 1 * i.val) = 4096 * half t + 256 * n.val + i.val; omega
  · show (16 + t.val / 4 % 4) * 256 + (0 + 1 * x.val) = 4096 + 256 * (t.val / 4 % 4) + x.val; omega

theorem qB_at (ht : 2 ≤ t.val % 4) (n : Fin 16) (i : Fin 256) (d : Fin 128) : qB m c t n (ix3 0 i d)
    = pArr m c (ix3 (bat t) (tok t n i) ⟨3072 + 128 * (hd t).val + d.val, by have := (hd t).isLt; omega⟩) := by
  have hh : half t = t.val % 4 - 2 := if_neg (by omega)
  unfold qB ld rK pArr
  rw [← V_main_arg0 m c]
  blk_point [iblk, V, idx t]
  · rfl
  · show (t.val % 4 - 2) * 4096 + (256 * n.val + 1 * i.val) = 4096 * half t + 256 * n.val + i.val; omega
  · show (24 + t.val / 4 % 4) * 128 + (0 + 1 * d.val) = 3072 + 128 * (t.val / 4 % 4) + d.val; omega

theorem gB_at (ht : 2 ≤ t.val % 4) (n : Fin 16) (i x : Fin 256) : gB m c t n (ix3 0 i x)
    = pArr m c (ix3 (bat t) (tok t n i) ⟨5120 + 256 * (hd t).val + x.val, by have := (hd t).isLt; omega⟩) := by
  have hh : half t = t.val % 4 - 2 := if_neg (by omega)
  unfold gB ld rV pArr
  rw [← V_main_arg0 m c]
  blk_point [iblk, V, idx t]
  · rfl
  · show (t.val % 4 - 2) * 4096 + (256 * n.val + 1 * i.val) = 4096 * half t + 256 * n.val + i.val; omega
  · show (20 + t.val / 4 % 4) * 256 + (0 + 1 * x.val) = 5120 + 256 * (t.val / 4 % 4) + x.val; omega

theorem coB_at (n : Fin 16) (i : Fin 256) (d : Fin 128) : coB m c t n (ix2 i d) = (V m c main_v27 : FVec Ideal S8192x128 .f32) (ix2 (tok t n i) d) := by
  unfold coB ld rC
  blk_point [iblk, idx t]
  · show half t * 4096 + (256 * n.val + 1 * i.val) = 4096 * half t + 256 * n.val + i.val; omega
  · show 0 + 1 * d.val = d.val; omega

theorem siB_at (n : Fin 16) (i : Fin 256) (d : Fin 128) : siB m c t n (ix2 i d) = (V m c main_v34 : FVec Ideal S8192x128 .f32) (ix2 (tok t n i) d) := by
  unfold siB ld rC
  blk_point [iblk, idx t]
  · show half t * 4096 + (256 * n.val + 1 * i.val) = 4096 * half t + 256 * n.val + i.val; omega
  · show 0 + 1 * d.val = d.val; omega

theorem pmB_at (e d : Fin 128) : pmB m c t (ix2 e d) = (V m c main_v43 : FVec Ideal S128x128 .bf16) (ix2 e d) := by
  unfold pmB ld rPm
  blk_point [iblk, idx t]
  · show 0 + 1 * e.val = e.val; omega
  · show 0 + 1 * d.val = d.val; omega

theorem lfB_at : lfB m c t (ix3 0 0 0) = (V m c main_v44 : FVec Ideal S4x1x1 .f32) (ix3 (hd t) 0 0) := by
  unfold lfB ld r1
  blk_point [iblk, idx t]
  all_goals rfl

theorem lbB_at : lbB m c t (ix3 0 0 0) = (V m c main_v45 : FVec Ideal S4x1x1 .f32) (ix3 (hd t) 0 0) := by
  unfold lbB ld r1
  blk_point [iblk, idx t]
  all_goals rfl

theorem fInit_at (d : Fin 128) (x : Fin 256) : (fInit (iblk m c 9 t) : FVec Ideal S128x256 .f32) (ix2 d x)
    = (m ((c : Thread nD τ).loc main_arg3) : FVec Ideal S8x4x128x256 .f32) (ix4 (bat t) (hd t) d x) := by
  unfold fInit ld rS0
  rw [← V_main_arg3 m c]
  pointwise [k0_pay5]
  blk_point [iblk, V, idx t]
  all_goals rfl

theorem bInit_at (d : Fin 128) (x : Fin 256) : (bInit (iblk m c 10 t) : FVec Ideal S128x256 .f32) (ix2 d x)
    = (m ((c : Thread nD τ).loc main_arg4) : FVec Ideal S8x4x128x256 .f32) (ix4 (bat t) (hd t) d x) := by
  unfold bInit ld rS0
  rw [← V_main_arg4 m c]
  pointwise [k0_pay4]
  blk_point [iblk, V, idx t]
  all_goals rfl

theorem kept_eq (s : FVec Ideal S128x256 .f32) : kept (F := Ideal) s = s := by
  funext y
  show s (rS.toLoadRect.idx y) = s y
  congr 1
  funext a
  match a with
  | 0 => exact Fin.ext (by show 0 + 1 * (y 0).val = (y 0).val; omega)
  | 1 => exact Fin.ext (by show 0 + 1 * (y 1).val = (y 1).val; omega)

end Cert.Ret
end
-- ==== Proof.Ret.Fold.lean ====
/-
  The retention's chunks over the reals: on finite arguments every state is the accumulation, from its end of the
  sequence, of the keys' and values' products, and what a row reads of its chunk and of the two states around it is what it
  reads of the whole sequence.
-/
module

public import proofs.«01_k».proof.Proof.Ret.Real
public import proofs.«01_k».proof.Proof.Ret.Chunk
public import proofs.«01_k».proof.Proof.Ret.Entry
public import proofs.«01_k».proof.Proof.Ret.Blocks

@[expose] public section

set_option maxRecDepth 200000

noncomputable section

namespace Cert.Ret

open Cert.KernelIdeal Cert.KernelIdeal.Gen
open Idealize.ShloMosaic Idealize.ShloMosaic.TcCoe Idealize.SL.Sem
open Finset

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-! ## The layer's queries, keys and values, over the reals -/

section Arrays

variable (p : FVec Ideal ⟨3, ![8, 8192, 8192]⟩ .bf16) (lf lb : FVec Ideal ⟨2, ![1, 4]⟩ .f32)
  (sf sb : FVec Ideal ⟨4, ![8, 4, 128, 256]⟩ .f32)

/-- The arguments are finite where the retention reads them through its states. -/
structure Fine : Prop where
  p : ∀ (b : Fin 8) (t : Fin 8192) (j : Fin 8192), 3072 ≤ j.val → j.val < 5120 → p (ix3 b t j) = ((p (ix3 b t j)).toReal : EReal)
  lf : ∀ h : Fin 4, lf (ix2 0 h) = ((lf (ix2 0 h)).toReal : EReal)
  lb : ∀ h : Fin 4, lb (ix2 0 h) = ((lb (ix2 0 h)).toReal : EReal)
  sf : ∀ (b : Fin 8) (h : Fin 4) (d : Fin 128) (x : Fin 256), sf (ix4 b h d x) = ((sf (ix4 b h d x)).toReal : EReal)
  sb : ∀ (b : Fin 8) (h : Fin 4) (d : Fin 128) (x : Fin 256), sb (ix4 b h d x) = ((sb (ix4 b h d x)).toReal : EReal)

/-- The query of token `t`, rotated. -/
def qR (b : Fin 8) (h : Fin 4) (t : Fin 8192) (d : Fin 128) : ℝ :=
  rotR (fun e => (p (ix3 b t ⟨3072 + 128 * h.val + e.val, by omega⟩)).toReal) t d
/-- The key of token `t`, rotated and scaled. -/
def kR (b : Fin 8) (h : Fin 4) (t : Fin 8192) (d : Fin 128) : ℝ :=
  rotR (fun e => (p (ix3 b t ⟨3584 + 128 * h.val + e.val, by omega⟩)).toReal) t d * scl
/-- The value of token `t`. -/
def vR (b : Fin 8) (h : Fin 4) (t : Fin 8192) (x : Fin 256) : ℝ :=
  (p (ix3 b t ⟨4096 + 256 * h.val + x.val, by omega⟩)).toReal

/-- The products of keys and values, by token. -/
def kvR (b : Fin 8) (h : Fin 4) (d : Fin 128) (x : Fin 256) : ℕ → ℝ :=
  fun j => if hj : j < 8192 then kR p b h ⟨j, hj⟩ d * vR p b h ⟨j, hj⟩ x else 0

/-- What a query reads of the sequence, forwards and backwards. -/
def oR (b : Fin 8) (h : Fin 4) (t : Fin 8192) (x : Fin 256) : ℝ :=
  ∑ d : Fin 128, qR p b h t d * reads (lf (ix2 0 h)).toReal (lb (ix2 0 h)).toReal (sf (ix4 b h d x)).toReal
    (sb (ix4 b h d x)).toReal (kvR p b h d x) 8192 t.val

/-- The head and the value coordinate of a column of the result, and the column of its gate. -/
def hOf (y : Fin 1024) : Fin 4 := ⟨y.val / 256, by omega⟩
def xOf (y : Fin 1024) : Fin 256 := ⟨y.val % 256, by omega⟩
def gOf (y : Fin 1024) : Fin 8192 := ⟨5120 + y.val, by omega⟩

/-- An entry of the retention's result. -/
def retE (b : Fin 8) (t : Fin 8192) (y : Fin 1024) : EReal :=
  readout (fun x => (oR p lf lb sf sb b (hOf y) t x : EReal)) (p (ix3 b t (gOf y))) (xOf y)

/-- The retention's result. -/
def retF : FVec Ideal ⟨3, ![8, 8192, 1024]⟩ .bf16 := fun i => retE p lf lb sf sb (i 0) (i 1) (i 2)

end Arrays

/-! ## One chunk -/

section Kernel

variable (m : (ℓ : Loc nD τ sig) → Buf (Elt Ideal) ℓ) (c : Dev nD) (t : Fin cfg0.N)

/-- The decays and the states at the two ends. -/
def lfArr : FVec Ideal S1x4 .f32 := m ((c : Thread nD τ).loc main_arg1)
def lbArr : FVec Ideal S1x4 .f32 := m ((c : Thread nD τ).loc main_arg2)
def sfArr : FVec Ideal S8x4x128x256 .f32 := m ((c : Thread nD τ).loc main_arg3)
def sbArr : FVec Ideal S8x4x128x256 .f32 := m ((c : Thread nD τ).loc main_arg4)

theorem coB_eq (n : Fin 16) (i : Fin 256) (d : Fin 128) : coB m c t n (ix2 i d) = (cosR (tok t n i) d : EReal) :=
  (coB_at m c t n i d).trans (cos_at m c _ d)
theorem siB_eq (n : Fin 16) (i : Fin 256) (d : Fin 128) : siB m c t n (ix2 i d) = (sinR (tok t n i) d : EReal) :=
  (siB_at m c t n i d).trans (sin_at m c _ d)
theorem pmB_eq (e d : Fin 128) : pmB m c t (ix2 e d) = (if e = sw d then 1 else 0 : EReal) :=
  (pmB_at m c t e d).trans (pm_at m c e d)

variable (hF : Fine (pArr m c) (lfArr m c) (lbArr m c) (sfArr m c) (sbArr m c))
include hF

theorem lfB_eq : lfB m c t (ix3 0 0 0) = ((lfArr m c (ix2 0 (hd t))).toReal : EReal) := by
  rw [← hF.lf, lfB_at, V_lf]
  pointwise [lfArr]

theorem lbB_eq : lbB m c t (ix3 0 0 0) = ((lbArr m c (ix2 0 (hd t))).toReal : EReal) := by
  rw [← hF.lb, lbB_at, V_lb]
  pointwise [lbArr]

theorem keyC_eq (n : Fin 16) (j : Fin 256) (d : Fin 128) : keyC (pmB m c t) (kB m c t n) (coB m c t n) (siB m c t n) j d
    = (kR (pArr m c) (bat t) (hd t) (tok t n j) d : EReal) := by
  have hh := (hd t).isLt
  unfold keyC rotC kR
  simp only [kB_at, coB_eq, siB_eq, pmB_eq]
  rw [sum_pm (fun e => pArr m c (ix3 (bat t) (tok t n j) ⟨3584 + 128 * (hd t).val + e.val, by omega⟩)),
    hF.p _ _ _ (by show 3072 ≤ 3584 + 128 * (hd t).val + d.val; omega) (by show 3584 + 128 * (hd t).val + d.val < 5120; omega),
    hF.p _ _ ⟨3584 + 128 * (hd t).val + (sw d).val, _⟩ (by show 3072 ≤ 3584 + 128 * (hd t).val + (sw d).val; omega)
      (by show 3584 + 128 * (hd t).val + (sw d).val < 5120; omega),
    ofBits_scl, rotR, EReal.coe_mul, EReal.coe_add, EReal.coe_mul, EReal.coe_mul]

theorem qrot_eq (ht : 2 ≤ t.val % 4) (n : Fin 16) (j : Fin 256) (d : Fin 128) :
    rotC (pmB m c t) (coB m c t n) (siB m c t n) (qB m c t n) j d = (qR (pArr m c) (bat t) (hd t) (tok t n j) d : EReal) := by
  have hh := (hd t).isLt
  unfold rotC qR
  simp only [qB_at m c t ht, coB_eq, siB_eq, pmB_eq]
  rw [sum_pm (fun e => pArr m c (ix3 (bat t) (tok t n j) ⟨3072 + 128 * (hd t).val + e.val, by omega⟩)),
    hF.p _ _ _ (by show 3072 ≤ 3072 + 128 * (hd t).val + d.val; omega) (by show 3072 + 128 * (hd t).val + d.val < 5120; omega),
    hF.p _ _ ⟨3072 + 128 * (hd t).val + (sw d).val, _⟩ (by show 3072 ≤ 3072 + 128 * (hd t).val + (sw d).val; omega)
      (by show 3072 + 128 * (hd t).val + (sw d).val < 5120; omega),
    rotR, EReal.coe_add, EReal.coe_mul, EReal.coe_mul]

theorem vB_eq (n : Fin 16) (j x : Fin 256) : vB m c t n (ix3 0 j x) = (vR (pArr m c) (bat t) (hd t) (tok t n j) x : EReal) := by
  have hh := (hd t).isLt
  rw [vB_at, hF.p _ _ _ (by show 3072 ≤ 4096 + 256 * (hd t).val + x.val; omega) (by show 4096 + 256 * (hd t).val + x.val < 5120; omega), vR]

omit hF in
theorem kvR_tok (n : Fin 16) (j : Fin 256) (d : Fin 128) (x : Fin 256) :
    kvR (pArr m c) (bat t) (hd t) d x (4096 * half t + 256 * n.val + j.val)
      = kR (pArr m c) (bat t) (hd t) (tok t n j) d * vR (pArr m c) (bat t) (hd t) (tok t n j) x := by
  rw [kvR, dif_pos (show 4096 * half t + 256 * n.val + j.val < 8192 from (tok t n j).isLt)]; rfl

theorem updC_eq (n : Fin 16) (w : ℕ → ℝ) (d : Fin 128) (x : Fin 256) :
    updC (pmB m c t) (kB m c t n) (vB m c t n) (coB m c t n) (siB m c t n) (fun j => (w j.val : EReal)) d x
      = ((∑ j ∈ range 256, w j * kvR (pArr m c) (bat t) (hd t) d x (4096 * half t + 256 * n.val + j) : ℝ) : EReal) := by
  rw [updC, sum_range fun j => w j * kvR (pArr m c) (bat t) (hd t) d x (4096 * half t + 256 * n.val + j), coe_sum]
  refine sum_congr rfl fun j _ => ?_
  rw [keyC_eq m c t hF, vB_eq m c t hF, kvR_tok, ← EReal.coe_mul, ← EReal.coe_mul]
  congr 1; ring

/-- The backward state after a chunk, from the state after the chunks behind it. -/
theorem bStep_eq (n : Fin 16) (s : FVec Ideal S128x256 .f32) (d : Fin 128) (x : Fin 256)
    (hs : s (ix2 d x) = (acc (lbArr m c (ix2 0 (hd t))).toReal (sbArr m c (ix4 (bat t) (hd t) d x)).toReal
      (mir 8192 (kvR (pArr m c) (bat t) (hd t) d x)) (8192 - (4096 * half t + 256 * n.val) - 256) : EReal)) :
    (bStep (F := Ideal) (lbB m c t) (pmB m c t) (kB m c t n) (vB m c t n) (coB m c t n) (siB m c t n) s : FVec Ideal S128x256 .f32) (ix2 d x)
      = (acc (lbArr m c (ix2 0 (hd t))).toReal (sbArr m c (ix4 (bat t) (hd t) d x)).toReal
        (mir 8192 (kvR (pArr m c) (bat t) (hd t) d x)) (8192 - (4096 * half t + 256 * n.val)) : EReal) := by
  have hh := half_le t
  rw [bStep_apply, hs, lbB_eq m c t hF, ofBits_256]
  simp only [posC_eq, ← EReal.coe_mul, Ideal.exp_coe]
  rw [updC_eq m c t hF n (fun j => Real.exp ((lbArr m c (ix2 0 (hd t))).toReal * (j : ℝ))), ← EReal.coe_add,
    acc_bwd_step _ _ _ 8192 (4096 * half t + 256 * n.val) 256 (by omega)]
  congr 1
  push_cast
  ring

/-- The forward state after a chunk, from the state before it. -/
theorem fStep_eq (n : Fin 16) (s : FVec Ideal S128x256 .f32) (d : Fin 128) (x : Fin 256)
    (hs : s (ix2 d x) = (acc (lfArr m c (ix2 0 (hd t))).toReal (sfArr m c (ix4 (bat t) (hd t) d x)).toReal
      (kvR (pArr m c) (bat t) (hd t) d x) (4096 * half t + 256 * n.val) : EReal)) :
    (fStep (F := Ideal) (lfB m c t) (pmB m c t) (kB m c t n) (vB m c t n) (coB m c t n) (siB m c t n) s : FVec Ideal S128x256 .f32) (ix2 d x)
      = (acc (lfArr m c (ix2 0 (hd t))).toReal (sfArr m c (ix4 (bat t) (hd t) d x)).toReal
        (kvR (pArr m c) (bat t) (hd t) d x) (4096 * half t + 256 * n.val + 256) : EReal) := by
  rw [fStep_apply, hs, lfB_eq m c t hF, ofBits_256, ofBits_255]
  simp only [posC_eq, ← EReal.coe_mul, ← EReal.coe_sub, Ideal.exp_coe]
  rw [updC_eq m c t hF n (fun j => Real.exp ((lfArr m c (ix2 0 (hd t))).toReal * (255 - (j : ℝ)))), ← EReal.coe_add,
    acc_add _ _ _ (4096 * half t + 256 * n.val) 256]
  congr 1
  push_cast
  rw [show (256 : ℝ) - 1 = 255 by norm_num]
  ring

/-! ## The states over the sequence -/

theorem bAt_eq (s : FVec Ideal S128x256 .f32) (d : Fin 128) (x : Fin 256)
    (hs : s (ix2 d x) = (acc (lbArr m c (ix2 0 (hd t))).toReal (sbArr m c (ix4 (bat t) (hd t) d x)).toReal
      (mir 8192 (kvR (pArr m c) (bat t) (hd t) d x)) (4096 - 4096 * half t) : EReal)) :
    ∀ n ≤ 16, (bAt m c t s n : FVec Ideal S128x256 .f32) (ix2 d x)
      = (acc (lbArr m c (ix2 0 (hd t))).toReal (sbArr m c (ix4 (bat t) (hd t) d x)).toReal
        (mir 8192 (kvR (pArr m c) (bat t) (hd t) d x)) (4096 - 4096 * half t + 256 * n) : EReal)
  | 0, _ => hs
  | n + 1, hn => by
    have hh := half_le t
    have e : 4096 - 4096 * half t + 256 * (n + 1) = 8192 - (4096 * half t + 256 * (15 - n)) := by omega
    rw [e]
    refine bStep_eq m c t hF ⟨15 - n, by omega⟩ (bAt m c t s n) d x ?_
    rw [bAt_eq s d x hs n (by omega)]
    have e' : 4096 - 4096 * half t + 256 * n = 8192 - (4096 * half t + 256 * (15 - n)) - 256 := by omega
    rw [e']

theorem fAt_eq (s : FVec Ideal S128x256 .f32) (d : Fin 128) (x : Fin 256)
    (hs : s (ix2 d x) = (acc (lfArr m c (ix2 0 (hd t))).toReal (sfArr m c (ix4 (bat t) (hd t) d x)).toReal
      (kvR (pArr m c) (bat t) (hd t) d x) (4096 * half t) : EReal)) :
    ∀ n ≤ 16, (fAt m c t s n : FVec Ideal S128x256 .f32) (ix2 d x)
      = (acc (lfArr m c (ix2 0 (hd t))).toReal (sfArr m c (ix4 (bat t) (hd t) d x)).toReal
        (kvR (pArr m c) (bat t) (hd t) d x) (4096 * half t + 256 * n) : EReal)
  | 0, _ => hs
  | n + 1, hn => by
    have e : (cl n).val = n := by show min n 15 = n; omega
    have := fStep_eq m c t hF (cl n) (fAt m c t s n) d x (by rw [e]; exact fAt_eq s d x hs n (by omega))
    rw [e] at this
    exact this

end Kernel

end Cert.Ret
end
-- ==== Proof.Ret.Out.lean ====
/-
  The retention's output rows: on finite arguments each forward point leaves in the output's buffer what its tokens' queries
  read of the whole sequence, normalised and gated; and the array after the run.
-/
module

public import proofs.«01_k».proof.Proof.Ret.Fold
public import proofs.«01_k».proof.Proof.Ret.Run

@[expose] public section

set_option maxRecDepth 200000

noncomputable section

namespace Cert.Ret

open Cert.KernelIdeal Cert.KernelIdeal.Gen
open Idealize.ShloMosaic Idealize.ShloMosaic.TcCoe Idealize.SL.Sem
open Idealize.ShloMosaic.Pipeline (Dat)
open Finset

variable (m : (ℓ : Loc nD τ sig) → Buf (Elt Ideal) ℓ) (c : Dev nD) (t : Fin cfg0.N)

/-! ## The points of a head -/

theorem pt_val (p : ℕ) (hp : p < 4) : (pt (t.val / 4) p).val = 4 * (t.val / 4) + p := by
  have := lt_128 t
  show (4 * (t.val / 4) + p) % 128 = _
  omega

theorem bat_pt (p : ℕ) (hp : p < 4) : bat (pt (t.val / 4) p) = bat t :=
  Fin.ext (by show (pt (t.val / 4) p).val / 16 = t.val / 16; rw [pt_val t p hp]; omega)
theorem hd_pt (p : ℕ) (hp : p < 4) : hd (pt (t.val / 4) p) = hd t :=
  Fin.ext (by show (pt (t.val / 4) p).val / 4 % 4 = t.val / 4 % 4; rw [pt_val t p hp]; omega)
theorem half_pt (p : ℕ) (hp : p < 4) : half (pt (t.val / 4) p) = if p < 2 then 1 - p else p - 2 := by
  unfold half
  rw [pt_val t p hp, show (4 * (t.val / 4) + p) % 4 = p by omega]

/-- The two accumulations of a point's head, over `k` tokens from their end of the sequence. -/
def ab (d : Fin 128) (x : Fin 256) (k : ℕ) : ℝ :=
  acc (lbArr m c (ix2 0 (hd t))).toReal (sbArr m c (ix4 (bat t) (hd t) d x)).toReal (mir 8192 (kvR (pArr m c) (bat t) (hd t) d x)) k
def af (d : Fin 128) (x : Fin 256) (k : ℕ) : ℝ :=
  acc (lfArr m c (ix2 0 (hd t))).toReal (sfArr m c (ix4 (bat t) (hd t) d x)).toReal (kvR (pArr m c) (bat t) (hd t) d x) k

/-- The slot chunk `k` of a forward point reads. -/
def slotB (h : 2 ≤ (grid0.coords t 2).val) (k : ℕ) : FVec Ideal S1x128x256 .f32 :=
  ld (rSlot (grid0.coords t) h k) (slots m c (t.val / 4))

variable (hF : Fine (pArr m c) (lfArr m c) (lbArr m c) (sfArr m c) (sbArr m c))
include hF

theorem b0_at (d : Fin 128) (x : Fin 256) (k : ℕ) (hk : k ≤ 16) :
    (b0 m c (t.val / 4) k : FVec Ideal S128x256 .f32) (ix2 d x) = (ab m c t d x (256 * k) : EReal) := by
  have := bAt_eq m c (pt (t.val / 4) 0) hF (bInit (iblk m c 10 (pt (t.val / 4) 0))) d x (by
    rw [bInit_at, half_pt t 0 (by omega), if_pos (by omega), show 4096 - 4096 * (1 - 0) = 0 by omega, acc_zero]
    exact hF.sb _ _ _ _) k hk
  rw [bat_pt t 0 (by omega), hd_pt t 0 (by omega), half_pt t 0 (by omega), if_pos (by omega),
    show 4096 - 4096 * (1 - 0) + 256 * k = 256 * k by omega] at this
  exact this

theorem b1_at (d : Fin 128) (x : Fin 256) (k : ℕ) (hk : k ≤ 16) :
    (b1 m c (t.val / 4) k : FVec Ideal S128x256 .f32) (ix2 d x) = (ab m c t d x (4096 + 256 * k) : EReal) := by
  have := bAt_eq m c (pt (t.val / 4) 1) hF (kept (b0 m c (t.val / 4) 16)) d x (by
    rw [kept_eq, b0_at m c t hF d x 16 le_rfl, half_pt t 1 (by omega), if_pos (by omega), bat_pt t 1 (by omega), hd_pt t 1 (by omega)]
    rfl) k hk
  rw [bat_pt t 1 (by omega), hd_pt t 1 (by omega), half_pt t 1 (by omega), if_pos (by omega)] at this
  exact this

theorem f0_at (d : Fin 128) (x : Fin 256) (k : ℕ) (hk : k ≤ 16) :
    (f0 m c (t.val / 4) k : FVec Ideal S128x256 .f32) (ix2 d x) = (af m c t d x (256 * k) : EReal) := by
  have := fAt_eq m c (pt (t.val / 4) 2) hF (fInit (iblk m c 9 (pt (t.val / 4) 2))) d x (by
    rw [fInit_at, half_pt t 2 (by omega), if_neg (by omega), show 4096 * (2 - 2) = 0 by omega, acc_zero]
    exact hF.sf _ _ _ _) k hk
  rw [bat_pt t 2 (by omega), hd_pt t 2 (by omega), half_pt t 2 (by omega), if_neg (by omega),
    show 4096 * (2 - 2) + 256 * k = 256 * k by omega] at this
  exact this

theorem f1_at (d : Fin 128) (x : Fin 256) (k : ℕ) (hk : k ≤ 16) :
    (f1 m c (t.val / 4) k : FVec Ideal S128x256 .f32) (ix2 d x) = (af m c t d x (4096 + 256 * k) : EReal) := by
  have := fAt_eq m c (pt (t.val / 4) 3) hF (kept (f0 m c (t.val / 4) 16)) d x (by
    rw [kept_eq, f0_at m c t hF d x 16 le_rfl, half_pt t 3 (by omega), if_neg (by omega), bat_pt t 3 (by omega), hd_pt t 3 (by omega)]
    rfl) k hk
  rw [bat_pt t 3 (by omega), hd_pt t 3 (by omega), half_pt t 3 (by omega), if_neg (by omega)] at this
  exact this

/-- The forward state before chunk `k` of a forward point. -/
theorem fHere_at (ht : 2 ≤ t.val % 4) (d : Fin 128) (x : Fin 256) (k : ℕ) (hk : k ≤ 16) :
    (fHere m c t k : FVec Ideal S128x256 .f32) (ix2 d x) = (af m c t d x (4096 * half t + 256 * k) : EReal) := by
  unfold fHere half
  rw [if_neg (by omega)]
  by_cases h2 : t.val % 4 = 2
  · rw [← f0_eq m c t h2, f0_at m c t hF d x k hk, h2, show 4096 * (2 - 2) + 256 * k = 256 * k by omega]
  · have h3 : t.val % 4 = 3 := by omega
    rw [← f1_eq m c t h3, f1_at m c t hF d x k hk, h3]

/-- The backward state behind chunk `k` of a forward point, in its slot. -/
theorem slot_at (h : 2 ≤ (grid0.coords t 2).val) (d : Fin 128) (x : Fin 256) (k : ℕ) (hk : k < 16) :
    slotB m c t h k (ix3 0 d x)
      = (ab m c t d x (8192 - (4096 * half t + 256 * k) - 256) : EReal) := by
  have hc := coord2 t
  have ek : (cl k).val = k := by show min k 15 = k; omega
  have hh : half t = t.val % 4 - 2 := if_neg (by omega)
  have e : (rSlot (grid0.coords t) h k).toLoadRect.idx (ix3 0 d x) = ix3 ⟨16 * half t + k, by have := half_le t; omega⟩ d x := by
    funext a
    match a with
    | 0 =>
      refine Fin.ext ?_
      show k0_off2 (grid0.coords t) (BitVec.ofNat 32 (cl k).val) 0 + 1 * 0 = 16 * half t + k
      rw [off2_eq _ h, ek]
      show (16 * ((grid0.coords t 2).val - 2) + (BitVec.ofNat 32 k).toNat) % 4294967296 + 1 * 0 = _
      rw [BitVec.toNat_ofNat]; omega
    | 1 =>
      refine Fin.ext ?_
      show k0_off2 (grid0.coords t) (BitVec.ofNat 32 (cl k).val) 1 + 1 * d.val = d.val
      rw [off2_eq _ h]
      show 0 + 1 * d.val = d.val; omega
    | 2 =>
      refine Fin.ext ?_
      show k0_off2 (grid0.coords t) (BitVec.ofNat 32 (cl k).val) 2 + 1 * x.val = x.val
      rw [off2_eq _ h]
      show 0 + 1 * x.val = x.val; omega
  refine (congrArg (slots m c (t.val / 4)) e).trans ?_
  have e6 (s : FVec Ideal S128x256 .f32) : (k0_pay6 s : FVec Ideal S1x128x256 .f32) (ix3 0 d x) = s (ix2 d x) := by
    pointwise [k0_pay6]
  have es (z : Fin 32) : slotIdx (ix3 z d x) = ix3 0 d x := by
    funext a
    match a with
    | 0 => rfl
    | 1 => rfl
    | 2 => rfl
  unfold slots
  by_cases h2 : t.val % 4 = 2
  · rw [if_pos (by show 16 * half t + k < 16; omega), es, e6]
    show b1 m c (t.val / 4) (15 - (16 * half t + k)) (ix2 d x) = _
    rw [b1_at m c t hF d x _ (by omega)]
    congr 2
    omega
  · rw [if_neg (by show ¬ 16 * half t + k < 16; omega), es, e6]
    show b0 m c (t.val / 4) (15 - (16 * half t + k - 16)) (ix2 d x) = _
    rw [b0_at m c t hF d x _ (by omega)]
    congr 2
    omega

/-! ## What a row reads -/

omit hF in
theorem sel_1 (a b : EReal) : Scalar.select 1#1 a b = a := rfl
omit hF in
theorem sel_0 (a b : EReal) : Scalar.select 0#1 a b = b := rfl

theorem dmatC_eq (i j : Fin 256) : dmatC (lfB m c t) (lbB m c t) i j
    = ((if j.val < i.val then Real.exp ((lfArr m c (ix2 0 (hd t))).toReal * (i.val - j.val))
      else if i.val < j.val then Real.exp ((lbArr m c (ix2 0 (hd t))).toReal * (j.val - i.val)) else 2 : ℝ) : EReal) := by
  unfold dmatC
  rw [lfB_eq m c t hF, lbB_eq m c t hF, relC_eq, ofBits_0, ofBits_2, sgt_word, slt_word]
  by_cases h1 : j.val < i.val
  · rw [if_pos h1, if_pos h1, sel_1,
      max_eq_left (EReal.coe_le_coe_iff.2 (sub_nonneg.2 (Nat.cast_le.2 h1.le))), ← EReal.coe_mul, Ideal.exp_coe]
  rw [if_neg h1, if_neg h1, sel_0]
  by_cases h2 : i.val < j.val
  · rw [if_pos h2, if_pos h2, sel_1, ← EReal.coe_sub, max_eq_left (EReal.coe_le_coe_iff.2 (by have : (i.val : ℝ) ≤ j.val := Nat.cast_le.2 h2.le; linarith)),
      ← EReal.coe_mul, Ideal.exp_coe]
    congr 3
    ring
  · rw [if_neg h2, if_neg h2, sel_0]

theorem readC_eq (ht : 2 ≤ t.val % 4) (n : Fin 16) (i x : Fin 256) (s : FVec Ideal S128x256 .f32) (sl : FVec Ideal S1x128x256 .f32)
    (hs : ∀ d, s (ix2 d x) = (af m c t d x (4096 * half t + 256 * n.val) : EReal))
    (hsl : ∀ d, sl (ix3 0 d x) = (ab m c t d x (8192 - (4096 * half t + 256 * n.val) - 256) : EReal)) :
    readC (lfB m c t) (lbB m c t) (pmB m c t) (qB m c t n) (kB m c t n) (vB m c t n) (coB m c t n) (siB m c t n) s sl i x
      = (oR (pArr m c) (lfArr m c) (lbArr m c) (sfArr m c) (sbArr m c) (bat t) (hd t) (tok t n i) x : EReal) := by
  have hh := half_le t
  unfold readC
  simp only [qrot_eq m c t hF ht, keyC_eq m c t hF, vB_eq m c t hF, hs, hsl, dmatC_eq m c t hF, lfB_eq m c t hF, lbB_eq m c t hF,
    posC_eq, ofBits_1, ofBits_256, ← EReal.coe_mul, ← EReal.coe_add, ← EReal.coe_sub, Ideal.exp_coe, ← coe_sum]
  congr 1
  have hr (d : Fin 128) : reads (lfArr m c (ix2 0 (hd t))).toReal (lbArr m c (ix2 0 (hd t))).toReal
      (sfArr m c (ix4 (bat t) (hd t) d x)).toReal (sbArr m c (ix4 (bat t) (hd t) d x)).toReal
      (kvR (pArr m c) (bat t) (hd t) d x) 8192 (tok t n i).val = _ :=
    reads_eq _ _ _ _ _ 8192 (4096 * half t + 256 * n.val) 256 i.val i.isLt (by omega)
  simp only [oR, hr, sum_range, kvR_tok, ab, af]
  simp only [mul_add, sum_add_distrib, mul_sum, sum_mul]
  congr 1
  · rw [sum_comm]
    refine sum_congr rfl fun d _ => sum_congr rfl fun j _ => ?_
    ring
  congr 1
  · refine sum_congr rfl fun d _ => ?_
    ring
  · refine sum_congr rfl fun d _ => ?_
    push_cast
    ring

/-! ## The output -/

/-- An entry of the output block of a forward point. -/
theorem outsAt_at (ht : 2 ≤ t.val % 4) (r : Fin 4096) (x : Fin 256) : (outsAt m c t : FVec Ideal S1x4096x256 .bf16) (ix3 0 r x)
    = retE (pArr m c) (lfArr m c) (lbArr m c) (sfArr m c) (sbArr m c) (bat t)
      ⟨4096 * half t + r.val, by have := half_le t; omega⟩ ⟨256 * (hd t).val + x.val, by have := (hd t).isLt; omega⟩ := by
  have hh := (hd t).isLt
  have hc : 2 ≤ (grid0.coords t 2).val := by rw [coord2 t]; exact ht
  unfold outsAt
  rw [dif_pos hc]
  have ek : cl (r.val / 256) = ⟨r.val / 256, by omega⟩ := Fin.ext (by show min (r.val / 256) 15 = r.val / 256; omega)
  have er : rowIdx (ix3 0 r x) = ix3 0 ⟨r.val % 256, Nat.mod_lt _ (by decide)⟩ x := by
    funext a
    match a with
    | 0 => rfl
    | 1 => rfl
    | 2 => rfl
  unfold outAt fBlock
  rw [er]
  show (fOut (F := Ideal) (lfB m c t) (lbB m c t) (pmB m c t) (qB m c t (cl (r.val / 256))) (kB m c t (cl (r.val / 256)))
    (vB m c t (cl (r.val / 256))) (gB m c t (cl (r.val / 256))) (coB m c t (cl (r.val / 256))) (siB m c t (cl (r.val / 256)))
    (fHere m c t (r.val / 256)) (slotB m c t hc (r.val / 256)) : FVec Ideal S1x256x256 .bf16) _ = _
  rw [ek, fOut_apply, retE]
  have et : tok t ⟨r.val / 256, by omega⟩ ⟨r.val % 256, Nat.mod_lt _ (by decide)⟩
      = ⟨4096 * half t + r.val, by have := half_le t; omega⟩ :=
    Fin.ext (by show 4096 * half t + 256 * (r.val / 256) + r.val % 256 = 4096 * half t + r.val; omega)
  have eh : hOf ⟨256 * (hd t).val + x.val, by omega⟩ = hd t := Fin.ext (by show (256 * (hd t).val + x.val) / 256 = (hd t).val; omega)
  have ex : xOf ⟨256 * (hd t).val + x.val, by omega⟩ = x := Fin.ext (by show (256 * (hd t).val + x.val) % 256 = x.val; omega)
  rw [eh, ex, gB_at m c t ht, et]
  congr 1
  · funext y
    rw [← et]
    exact readC_eq m c t hF ht _ _ y _ _ (fun d => fHere_at m c t hF ht d y _ (by show r.val / 256 ≤ 16; omega))
      (fun d => slot_at m c t hF hc d y _ (by omega))
  · refine congrArg (fun j => pArr m c (ix3 _ _ j)) (Fin.ext ?_)
    show 5120 + 256 * (hd t).val + x.val = 5120 + (256 * (hd t).val + x.val)
    omega

theorem final11 : (dats m 0 c).arrAt 11 cfg0.N = retF (pArr m c) (lfArr m c) (lbArr m c) (sfArr m c) (sbArr m c) := by
  refine (dats m 0 c).arrAt_eq_of_covers 11 _ (by decide +kernel) fun t hf y => ?_
  blk_simp
  rw [after0_11]
  have ht : 2 ≤ t.val % 4 := by
    by_contra h
    rw [flush11 t (by omega)] at hf
    exact Bool.noConfusion hf
  idx_vars y
  obtain rfl : y0 = 0 := Subsingleton.elim _ _
  refine (outsAt_at m c t hF ht y1 y2).trans ?_
  show retF (pArr m c) (lfArr m c) (lbArr m c) (sfArr m c) (sbArr m c) (ix3 (bat t)
      ⟨4096 * half t + y1.val, by have := half_le t; omega⟩ ⟨256 * (hd t).val + y2.val, by have := (hd t).isLt; omega⟩) = _
  have hh : half t = t.val % 4 - 2 := if_neg (by omega)
  generalize retF (pArr m c) (lfArr m c) (lbArr m c) (sfArr m c) (sbArr m c) = G
  blk_point [idx t]
  · rfl
  · show 256 * (t.val / 4 % 4) + y2.val = t.val / 4 % 4 * 256 + y2.val; omega

end Cert.Ret
end
-- ==== Proof.Ret.Pre.lean ====
/-
  What the precondition says: the entries the retention reads through its states are finite.
-/
module

public import proofs.«01_k».proof.Proof.Ret.Fold
public import proofs.«01_k».proof.Pre_finite_inputs
public import Idealize.ShloMosaic.Lib.ReduceAll
public import Idealize.ShloMosaic.Lib.Pointwise

@[expose] public section

set_option maxRecDepth 200000

noncomputable section

namespace Cert.Ret

open Cert.Pre_finite_inputs Cert.Pre_finite_inputs.Facts
open Idealize.ShloMosaic Idealize.ShloMosaic.TcCoe

instance : Subsingleton S_.Idx := ⟨fun _ _ => funext fun a => a.elim0⟩

theorem inf_eq : Ideal.ofBits .f32 0x7F800000#32 = (⊤ : EReal) := by
  simp [Ideal.ofBits, Ideal.ieee]

/-- A number of finite magnitude is a real. -/
theorem eq_coe (a : EReal) (h : Ideal.cmp .olt (max a (-a)) (Ideal.ofBits .f32 0x7F800000#32) = 1#1) : a = (a.toReal : EReal) := by
  rw [inf_eq] at h
  have h' : max a (-a) < ⊤ := by
    by_contra hn
    simp [Ideal.cmp, hn] at h
  refine (EReal.coe_toReal ?_ ?_).symm
  · rintro rfl; simp at h'
  · rintro rfl; simp at h'

variable [Facts] (p : FVec Ideal S8x8192x8192 .bf16) (lf lb : FVec Ideal S1x4 .f32) (sf sb : FVec Ideal S8x4x128x256 .f32)

theorem fine_of_pre (h : fn (F := Ideal) p lf lb sf sb = fun _ => 1#1) : Fine p lf lb sf sb := by
  have e := congrFun h (fun a => a.elim0)
  dsimp only [fn, fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun b t j h1 h2 => ?_, fun h => ?_, fun h => ?_, fun b h d x => ?_, fun b h d x => ?_⟩
  · have hc : (extf .f32 (extractStridedSlice S8x8192x2048 ![0, 0, 3072] p slices_S8x8192x8192_S8x8192x2048_0_0_3072) bitsLt_bf16_f32 :
        FVec Ideal S8x8192x2048 .f32) (ix3 b t ⟨j.val - 3072, by omega⟩) = (p (ix3 b t j) : EReal) := by
      pointwise
      exact congrArg (fun j => p (ix3 b t j)) (Fin.ext (by show 3072 + (j.val - 3072) = j.val; omega))
    have h0 := eq_coe _ (Host.reduce_andi_all _ _ _ _ _ e0 (ix3 b t ⟨j.val - 3072, by omega⟩))
    rw [hc] at h0
    exact h0
  · exact eq_coe _ (Host.reduce_andi_all _ _ _ _ _ e1 (ix2 0 h))
  · exact eq_coe _ (Host.reduce_andi_all _ _ _ _ _ e2 (ix2 0 h))
  · exact eq_coe _ (Host.reduce_andi_all _ _ _ _ _ e3 (ix4 b h d x))
  · exact eq_coe _ (Host.reduce_andi_all _ _ _ _ _ e4 (ix4 b h d x))

end Cert.Ret
end
-- ==== Proof.Ret.Ref.lean ====
/-
  The retention's reference over the extended reals: its rotated queries and keys, what each query reads of the whole
  sequence in both directions, and its result.
-/
module

public import proofs.«01_k».proof.Proof.Ret.Fold
public import proofs.«01_k».proof.Proof.Gen.ReferenceIdeal.Run
public import Idealize.ShloMosaic.Lib.Pointwise

@[expose] public section

set_option maxRecDepth 200000

noncomputable section

namespace Cert.Ret

open Cert.ReferenceIdeal Cert.ReferenceIdeal.Gen Cert.ReferenceIdeal.Value
open Idealize.ShloMosaic Idealize.ShloMosaic.TcCoe Idealize.ShloMosaic.StableHlo
open Finset

variable (V0 : Valuation τ sig (Elt Ideal))

/-- The reference's arguments. -/
def pV : FVec Ideal S8x8192x8192 .bf16 := V0 (Proc.devRef .tc main_arg0)
def lfV : FVec Ideal S1x4 .f32 := V0 (Proc.devRef .tc main_arg1)
def lbV : FVec Ideal S1x4 .f32 := V0 (Proc.devRef .tc main_arg2)
def sfV : FVec Ideal S8x4x128x256 .f32 := V0 (Proc.devRef .tc main_arg3)
def sbV : FVec Ideal S8x4x128x256 .f32 := V0 (Proc.devRef .tc main_arg4)

/-! ## The rotation -/

theorem angle_eq (n : ℕ) (hn : n < 8192) (j : Fin 32) : FloatOps.sitofp (F := Ideal) FTy.f32 (BitVec.ofNat 32 n)
    * Ideal.pow (Ideal.ofBits FTy.f32 1176256512#32)
      (Ideal.div (-FloatOps.sitofp (F := Ideal) FTy.f32 (BitVec.ofNat 32 j.val)) (Ideal.ofBits FTy.f32 1107296256#32))
      = (((n : ℝ) * frq j : ℝ) : EReal) := by
  rw [frq_eq, sitofp_nat n (by omega), ← EReal.coe_mul]

theorem v29_at (t : Fin 8192) (j : Fin 32) : (res_main_v29 V0 : FVec Ideal S1x8192x1x32 .f32) (ix4 0 t 0 j)
    = ((Real.cos (((t.val / 64 : ℕ) : ℝ) * frq j) : ℝ) : EReal) := by
  pointwise [res_main_v29, res_main_v27, res_main_v10, res_main_v21]
  exact congrArg Ideal.cos (angle_eq _ (by omega) j)
theorem v31_at (t : Fin 8192) (j : Fin 32) : (res_main_v31 V0 : FVec Ideal S1x8192x1x32 .f32) (ix4 0 t 0 j)
    = ((Real.sin (((t.val / 64 : ℕ) : ℝ) * frq j) : ℝ) : EReal) := by
  pointwise [res_main_v31, res_main_v27, res_main_v10, res_main_v21]
  exact congrArg Ideal.sin (angle_eq _ (by omega) j)
theorem v52_at (t : Fin 8192) (j : Fin 32) : (res_main_v52 V0 : FVec Ideal S1x8192x1x32 .f32) (ix4 0 t 0 j)
    = ((Real.cos (((t.val % 64 : ℕ) : ℝ) * frq j) : ℝ) : EReal) := by
  pointwise [res_main_v52, res_main_v50, res_main_v14, res_main_v21]
  exact congrArg Ideal.cos (angle_eq _ (by omega) j)
theorem v54_at (t : Fin 8192) (j : Fin 32) : (res_main_v54 V0 : FVec Ideal S1x8192x1x32 .f32) (ix4 0 t 0 j)
    = ((Real.sin (((t.val % 64 : ℕ) : ℝ) * frq j) : ℝ) : EReal) := by
  pointwise [res_main_v54, res_main_v50, res_main_v14, res_main_v21]
  exact congrArg Ideal.sin (angle_eq _ (by omega) j)
theorem v83_at (t : Fin 8192) (j : Fin 32) : (res_main_v83 V0 : FVec Ideal S1x8192x1x32 .f32) (ix4 0 t 0 j)
    = ((Real.cos (((t.val / 64 : ℕ) : ℝ) * frq j) : ℝ) : EReal) := by
  pointwise [res_main_v83, res_main_v81, res_main_v10, res_main_v75]
  exact congrArg Ideal.cos (angle_eq _ (by omega) j)
theorem v85_at (t : Fin 8192) (j : Fin 32) : (res_main_v85 V0 : FVec Ideal S1x8192x1x32 .f32) (ix4 0 t 0 j)
    = ((Real.sin (((t.val / 64 : ℕ) : ℝ) * frq j) : ℝ) : EReal) := by
  pointwise [res_main_v85, res_main_v81, res_main_v10, res_main_v75]
  exact congrArg Ideal.sin (angle_eq _ (by omega) j)
theorem v106_at (t : Fin 8192) (j : Fin 32) : (res_main_v106 V0 : FVec Ideal S1x8192x1x32 .f32) (ix4 0 t 0 j)
    = ((Real.cos (((t.val % 64 : ℕ) : ℝ) * frq j) : ℝ) : EReal) := by
  pointwise [res_main_v106, res_main_v104, res_main_v14, res_main_v75]
  exact congrArg Ideal.cos (angle_eq _ (by omega) j)
theorem v108_at (t : Fin 8192) (j : Fin 32) : (res_main_v108 V0 : FVec Ideal S1x8192x1x32 .f32) (ix4 0 t 0 j)
    = ((Real.sin (((t.val % 64 : ℕ) : ℝ) * frq j) : ℝ) : EReal) := by
  pointwise [res_main_v108, res_main_v104, res_main_v14, res_main_v75]
  exact congrArg Ideal.sin (angle_eq _ (by omega) j)

/-- A coordinate of the first half of a group, from the two that turn together. -/
theorem rotE_first (x : Fin 128 → EReal) (i : Fin 8192) (d e : Fin 128) (g : ℝ) (X Y : EReal) (hd : d.val % 64 < 32)
    (he : e.val = d.val + 32) (hg : ang i d = g) (hX : X = x d) (hY : Y = x e) :
    X * ((Real.cos g : ℝ) : EReal) - Y * ((Real.sin g : ℝ) : EReal) = rotE x i d := by
  have hs : sw d = e := Fin.ext (by rw [he]; exact if_pos hd)
  rw [rotE, cosR, sinR, if_pos hd, hg, hs, hX, hY, EReal.coe_neg, mul_neg, sub_eq_add_neg]

/-- A coordinate of the second half of a group. -/
theorem rotE_second (x : Fin 128 → EReal) (i : Fin 8192) (d e : Fin 128) (g : ℝ) (X Y : EReal) (hd : ¬ d.val % 64 < 32)
    (he : e.val = d.val - 32) (hg : ang i d = g) (hX : X = x e) (hY : Y = x d) :
    X * ((Real.sin g : ℝ) : EReal) + Y * ((Real.cos g : ℝ) : EReal) = rotE x i d := by
  have hs : sw d = e := Fin.ext (by rw [he]; exact if_neg hd)
  rw [rotE, cosR, sinR, if_neg hd, hg, hs, hX, hY, add_comm]

/-- The queries rotated. -/
theorem q_at (b : Fin 8) (h : Fin 4) (t : Fin 8192) (d : Fin 128) : (res_main_v126 V0 : FVec Ideal S8x4x8192x128 .f32) (ix4 b h t d)
    = rotE (fun e => pV V0 (ix3 b t ⟨3072 + 128 * h.val + e.val, by omega⟩)) t d := by
  pointwise [res_main_v126, res_main_v32, res_main_v33, res_main_v55, res_main_v56, res_main_v22, res_main_v45, res_main_v15, res_main_v0]
  simp only [v29_at, v31_at, v52_at, v54_at]
  have hP (j j' : Fin 8192) (e : j.val = j'.val) : (V0 (Proc.devRef .tc main_arg0) : FVec Ideal S8x8192x8192 .bf16) (ix3 b t j) = pV V0 (ix3 b t j') := by
    rw [Fin.ext e, pV]
  by_cases h1 : d.val < 64
  · by_cases h2 : d.val < 32
    · rw [dif_pos h1, dif_pos h2]
      exact rotE_first _ t d ⟨d.val + 32, by omega⟩ _ _ _ (by omega) rfl (ang_lo t d _ h1 (by show d.val = d.val % 32; omega))
        (hP _ _ (by show 3072 + (h.val * 128 + d.val) = 3072 + 128 * h.val + d.val; omega))
        (hP _ _ (by show 3072 + (h.val * 128 + (32 + d.val)) = 3072 + 128 * h.val + (d.val + 32); omega))
    · rw [dif_pos h1, dif_neg h2]
      exact rotE_second _ t d ⟨d.val - 32, by omega⟩ _ _ _ (by omega) rfl (ang_lo t d _ h1 (by show d.val - 32 = d.val % 32; omega))
        (hP _ _ (by show 3072 + (h.val * 128 + (d.val - 32)) = 3072 + 128 * h.val + (d.val - 32); omega))
        (hP _ _ (by show 3072 + (h.val * 128 + (32 + (d.val - 32))) = 3072 + 128 * h.val + d.val; omega))
  · by_cases h2 : d.val - 64 < 32
    · rw [dif_neg h1, dif_pos h2]
      exact rotE_first _ t d ⟨d.val + 32, by omega⟩ _ _ _ (by omega) rfl (ang_hi t d _ h1 (by show d.val - 64 = d.val % 32; omega))
        (hP _ _ (by show 3072 + (h.val * 128 + (64 + (d.val - 64))) = 3072 + 128 * h.val + d.val; omega))
        (hP _ _ (by show 3072 + (h.val * 128 + (64 + (32 + (d.val - 64)))) = 3072 + 128 * h.val + (d.val + 32); omega))
    · rw [dif_neg h1, dif_neg h2]
      exact rotE_second _ t d ⟨d.val - 32, by omega⟩ _ _ _ (by omega) rfl (ang_hi t d _ h1 (by show d.val - 64 - 32 = d.val % 32; omega))
        (hP _ _ (by show 3072 + (h.val * 128 + (64 + (d.val - 64 - 32))) = 3072 + 128 * h.val + (d.val - 32); omega))
        (hP _ _ (by show 3072 + (h.val * 128 + (64 + (32 + (d.val - 64 - 32)))) = 3072 + 128 * h.val + d.val; omega))

/-- The keys rotated and scaled. -/
theorem k_at (b : Fin 8) (h : Fin 4) (t : Fin 8192) (d : Fin 128) : (res_main_v127 V0 : FVec Ideal S8x4x8192x128 .f32) (ix4 b h t d)
    = rotE (fun e => pV V0 (ix3 b t ⟨3584 + 128 * h.val + e.val, by omega⟩)) t d * Ideal.ofBits .f32 0x3DB504F3#32 := by
  pointwise [res_main_v127, res_main_v86, res_main_v87, res_main_v109, res_main_v110, res_main_v76, res_main_v99, res_main_v69, res_main_v0]
  simp only [v83_at, v85_at, v106_at, v108_at]
  have hP (j j' : Fin 8192) (e : j.val = j'.val) : (V0 (Proc.devRef .tc main_arg0) : FVec Ideal S8x8192x8192 .bf16) (ix3 b t j) = pV V0 (ix3 b t j') := by
    rw [Fin.ext e, pV]
  refine congrArg (· * _) ?_
  by_cases h1 : d.val < 64
  · by_cases h2 : d.val < 32
    · rw [dif_pos h1, dif_pos h2]
      exact rotE_first _ t d ⟨d.val + 32, by omega⟩ _ _ _ (by omega) rfl (ang_lo t d _ h1 (by show d.val = d.val % 32; omega))
        (hP _ _ (by show 3584 + (h.val * 128 + d.val) = 3584 + 128 * h.val + d.val; omega))
        (hP _ _ (by show 3584 + (h.val * 128 + (32 + d.val)) = 3584 + 128 * h.val + (d.val + 32); omega))
    · rw [dif_pos h1, dif_neg h2]
      exact rotE_second _ t d ⟨d.val - 32, by omega⟩ _ _ _ (by omega) rfl (ang_lo t d _ h1 (by show d.val - 32 = d.val % 32; omega))
        (hP _ _ (by show 3584 + (h.val * 128 + (d.val - 32)) = 3584 + 128 * h.val + (d.val - 32); omega))
        (hP _ _ (by show 3584 + (h.val * 128 + (32 + (d.val - 32))) = 3584 + 128 * h.val + d.val; omega))
  · by_cases h2 : d.val - 64 < 32
    · rw [dif_neg h1, dif_pos h2]
      exact rotE_first _ t d ⟨d.val + 32, by omega⟩ _ _ _ (by omega) rfl (ang_hi t d _ h1 (by show d.val - 64 = d.val % 32; omega))
        (hP _ _ (by show 3584 + (h.val * 128 + (64 + (d.val - 64))) = 3584 + 128 * h.val + d.val; omega))
        (hP _ _ (by show 3584 + (h.val * 128 + (64 + (32 + (d.val - 64)))) = 3584 + 128 * h.val + (d.val + 32); omega))
    · rw [dif_neg h1, dif_neg h2]
      exact rotE_second _ t d ⟨d.val - 32, by omega⟩ _ _ _ (by omega) rfl (ang_hi t d _ h1 (by show d.val - 64 - 32 = d.val % 32; omega))
        (hP _ _ (by show 3584 + (h.val * 128 + (64 + (d.val - 64 - 32))) = 3584 + 128 * h.val + (d.val - 32); omega))
        (hP _ _ (by show 3584 + (h.val * 128 + (64 + (32 + (d.val - 64 - 32)))) = 3584 + 128 * h.val + d.val; omega))

/-! ## What a query reads -/

/-- How much of token `j` the query of token `t` reads forwards. -/
def wF (l : EReal) (t j : Fin 8192) : EReal :=
  if 0 ≤ FloatOps.sitofp (F := Ideal) FTy.f32 (BitVec.ofNat 32 t.val) - FloatOps.sitofp (F := Ideal) FTy.f32 (BitVec.ofNat 32 j.val) then
    Ideal.exp (l * max (FloatOps.sitofp (F := Ideal) FTy.f32 (BitVec.ofNat 32 t.val) - FloatOps.sitofp (F := Ideal) FTy.f32 (BitVec.ofNat 32 j.val)) 0)
  else 0
/-- How much of it the query reads backwards. -/
def wB (l : EReal) (t j : Fin 8192) : EReal :=
  if 0 ≤ -(FloatOps.sitofp (F := Ideal) FTy.f32 (BitVec.ofNat 32 t.val) - FloatOps.sitofp (F := Ideal) FTy.f32 (BitVec.ofNat 32 j.val)) then
    Ideal.exp (l * max (-(FloatOps.sitofp (F := Ideal) FTy.f32 (BitVec.ofNat 32 t.val) - FloatOps.sitofp (F := Ideal) FTy.f32 (BitVec.ofNat 32 j.val))) 0)
  else 0

/-- The rotated queries and keys. -/
def qV : FVec Ideal S8x4x8192x128 .f32 := res_main_v126 V0
def kV : FVec Ideal S8x4x8192x128 .f32 := res_main_v127 V0

theorem o_at (b : Fin 8) (t : Fin 8192) (h : Fin 4) (x : Fin 256) : (res_main_v197 V0 : FVec Ideal S8x8192x4x256 .f32) (ix4 b t h x)
    = (∑ j : Fin 8192, ((∑ d : Fin 128, (qV V0 (ix4 b h t d) : EReal) * kV V0 (ix4 b h j d))
            * wF (lfV V0 (ix2 0 h)) t j) * pV V0 (ix3 b j ⟨4096 + (h.val * 256 + x.val), by omega⟩)
        + (∑ d : Fin 128, (qV V0 (ix4 b h t d) : EReal) * sfV V0 (ix4 b h d x))
          * Ideal.exp (lfV V0 (ix2 0 h) * (FloatOps.sitofp (F := Ideal) FTy.f32 (BitVec.ofNat 32 t.val) + 1)))
      + (∑ j : Fin 8192, ((∑ d : Fin 128, (qV V0 (ix4 b h t d) : EReal) * kV V0 (ix4 b h j d))
            * wB (lbV V0 (ix2 0 h)) t j) * pV V0 (ix3 b j ⟨4096 + (h.val * 256 + x.val), by omega⟩)
        + (∑ d : Fin 128, (qV V0 (ix4 b h t d) : EReal) * sbV V0 (ix4 b h d x))
          * Ideal.exp (lbV V0 (ix2 0 h) * (Ideal.ofBits .f32 1174405120#32 - FloatOps.sitofp (F := Ideal) FTy.f32 (BitVec.ofNat 32 t.val)))) := by
  unfold wF wB qV kV pV lfV lbV sfV sbV
  pointwise [res_main_v197, res_main_v129, res_main_v134, res_main_v165, res_main_v137, res_main_v168, res_main_v128, res_main_v0, id_eq]

theorem wF_eq (l : ℝ) (t j : Fin 8192) : wF (l : EReal) t j = ((if j.val ≤ t.val then Real.exp (l * ((t.val : ℝ) - j.val)) else 0 : ℝ) : EReal) := by
  unfold wF
  rw [sitofp_nat _ (by omega), sitofp_nat _ (by omega), ← EReal.coe_sub]
  by_cases h : j.val ≤ t.val
  · have h' : (0 : ℝ) ≤ (t.val : ℝ) - j.val := sub_nonneg.2 (by exact_mod_cast h)
    have h0 : (0 : EReal) ≤ (((t.val : ℝ) - j.val : ℝ) : EReal) := EReal.coe_nonneg.2 h'
    rw [if_pos h0, if_pos h, max_eq_left h0, ← EReal.coe_mul, Ideal.exp_coe]
  · have h' : ¬ (0 : ℝ) ≤ (t.val : ℝ) - j.val := fun e => h (by exact_mod_cast sub_nonneg.1 e)
    rw [if_neg (fun e => h' (EReal.coe_nonneg.1 e)), if_neg h, EReal.coe_zero]

theorem wB_eq (l : ℝ) (t j : Fin 8192) : wB (l : EReal) t j = ((if t.val ≤ j.val then Real.exp (l * ((j.val : ℝ) - t.val)) else 0 : ℝ) : EReal) := by
  rw [← wF_eq l j t, wB, wF, sitofp_nat _ (by omega), sitofp_nat _ (by omega), ← EReal.coe_sub, ← EReal.coe_sub, ← EReal.coe_neg, neg_sub]

/-- The products of keys and values, read forwards and backwards with the states before the sequence and behind it. -/
theorem reads_whole (q : Fin 128 → ℝ) (k : Fin 8192 → Fin 128 → ℝ) (v : Fin 8192 → ℝ) (lf lb : ℝ) (sf sb : Fin 128 → ℝ) (a : Fin 128 → ℕ → ℝ)
    (ha : ∀ d (j : Fin 8192), a d j.val = k j d * v j) (t : Fin 8192) :
    (∑ j : Fin 8192, ((∑ d : Fin 128, q d * k j d) * (if j.val ≤ t.val then Real.exp (lf * ((t.val : ℝ) - j.val)) else 0)) * v j
        + (∑ d : Fin 128, q d * sf d) * Real.exp (lf * ((t.val : ℝ) + 1)))
      + (∑ j : Fin 8192, ((∑ d : Fin 128, q d * k j d) * (if t.val ≤ j.val then Real.exp (lb * ((j.val : ℝ) - t.val)) else 0)) * v j
        + (∑ d : Fin 128, q d * sb d) * Real.exp (lb * (8192 - (t.val : ℝ))))
      = ∑ d : Fin 128, q d * reads lf lb (sf d) (sb d) (a d) 8192 t.val := by
  have hw (w : Fin 8192 → ℝ) : ∑ j : Fin 8192, ((∑ d : Fin 128, q d * k j d) * w j) * v j = ∑ d : Fin 128, q d * ∑ j : Fin 8192, w j * a d j.val := by
    simp only [ha, sum_mul, mul_sum]
    rw [sum_comm]
    exact sum_congr rfl fun d _ => sum_congr rfl fun j _ => by ring
  rw [hw, hw, sum_mul, sum_mul, ← sum_add_distrib, ← sum_add_distrib, ← sum_add_distrib]
  refine sum_congr rfl fun d _ => ?_
  have hf := acc_fwd lf (sf d) (a d) 0 8192 t.val t.isLt
  have hb := acc_bwd lb (sb d) (a d) 8192 0 8192 t.val t.isLt (by omega)
  rw [zero_add] at hf hb
  rw [show 8192 - 0 - 8192 = 0 from rfl] at hb
  rw [reads, hf, hb, acc_zero, acc_zero, sum_range, sum_range]
  simp only [zero_add, ite_mul, zero_mul]
  push_cast
  ring

/-! ## The result -/

/-- The result, of what the queries read and of the gates. -/
def result (R : FVec Ideal S8x8192x4x256 .f32) (G : FVec Ideal S8x8192x1024 .f32) : FVec Ideal S8x8192x1024 .bf16 :=
  truncf .bf16 (shapeCast _ (mulf (mulf R (broadcastInDim S8x8192x4x256 ![0, 1, 2, 3] bcast_S8x8192x4x1_S8x8192x4x256_0_1_2_3
    (Host.rsqrt (addf (Host.divf (broadcastInDim S8x8192x4x1 ![0, 1, 2] bcast_S8x8192x4_S8x8192x4x1_0_1_2
      (Host.reduceAdd (mulf R R) (constant S_ .f32 0x00000000#32) reducesTo_S8x8192x4x256_S8x8192x4_d3 h_S_))
      (broadcastInDim S8x8192x4x1 ![] bcast_S_S8x8192x4x1 (constant S_ .f32 0x43800000#32)))
      (broadcastInDim S8x8192x4x1 ![] bcast_S_S8x8192x4x1 (constant S_ .f32 0x358637BD#32))))))
    (shapeCast _ (mulf G (Host.divf (broadcastInDim S8x8192x1024 ![] bcast_S_S8x8192x1024 (constant S_ .f32 0x3F800000#32))
      (addf (broadcastInDim S8x8192x1024 ![] bcast_S_S8x8192x1024 (constant S_ .f32 0x3F800000#32)) (Host.exp (Host.negf G)))))
      shapeCasts_S8x8192x1024_S8x8192x4x256)) shapeCasts_S8x8192x4x256_S8x8192x1024) bitsLt_bf16_f32

theorem result_at (R : FVec Ideal S8x8192x4x256 .f32) (G : FVec Ideal S8x8192x1024 .f32) (b : Fin 8) (t : Fin 8192) (y : Fin 1024) :
    result R G (ix3 b t y) = readout (fun x => R (ix4 b t (hOf y) x)) (G (ix3 b t y)) (xOf y) := by
  pointwise [result, readout, zero_sub, hOf, xOf]

theorem g_at (b : Fin 8) (t : Fin 8192) (y : Fin 1024) : (res_main_v199 V0 : FVec Ideal S8x8192x1024 .f32) (ix3 b t y) = pV V0 (ix3 b t (gOf y)) := by
  pointwise [res_main_v199, pV, gOf]

section Fine

variable (hF : Fine (pV V0) (lfV V0) (lbV V0) (sfV V0) (sbV V0))
include hF

theorem q_eq (b : Fin 8) (h : Fin 4) (t : Fin 8192) (d : Fin 128) : qV V0 (ix4 b h t d)
    = (qR (pV V0) b h t d : EReal) := by
  rw [qR, ← rotE_coe]
  refine (q_at V0 b h t d).trans ?_
  exact congrArg (fun x => rotE x t d) (funext fun e => hF.p _ _ _ (by show 3072 ≤ 3072 + 128 * h.val + e.val; omega)
    (by show 3072 + 128 * h.val + e.val < 5120; omega))

theorem k_eq (b : Fin 8) (h : Fin 4) (t : Fin 8192) (d : Fin 128) : kV V0 (ix4 b h t d)
    = (kR (pV V0) b h t d : EReal) := by
  rw [kR, EReal.coe_mul, ← rotE_coe, ← ofBits_scl]
  refine (k_at V0 b h t d).trans ?_
  exact congrArg (fun x => rotE x t d * _) (funext fun e => hF.p _ _ _ (by show 3072 ≤ 3584 + 128 * h.val + e.val; omega)
    (by show 3584 + 128 * h.val + e.val < 5120; omega))

theorem v_eq (b : Fin 8) (h : Fin 4) (t : Fin 8192) (x : Fin 256) : pV V0 (ix3 b t ⟨4096 + (h.val * 256 + x.val), by omega⟩)
    = (vR (pV V0) b h t x : EReal) := by
  have e : (⟨4096 + (h.val * 256 + x.val), by omega⟩ : Fin 8192) = ⟨4096 + 256 * h.val + x.val, by omega⟩ := Fin.ext (by simp only; omega)
  rw [e, vR]
  exact hF.p _ _ _ (by show 3072 ≤ 4096 + 256 * h.val + x.val; omega) (by show 4096 + 256 * h.val + x.val < 5120; omega)

theorem o_eq (b : Fin 8) (t : Fin 8192) (h : Fin 4) (x : Fin 256) : (res_main_v197 V0 : FVec Ideal S8x8192x4x256 .f32) (ix4 b t h x)
    = (oR (pV V0) (lfV V0) (lbV V0) (sfV V0) (sbV V0) b h t x : EReal) := by
  rw [o_at, hF.lf h, hF.lb h]
  simp only [q_eq V0 hF, k_eq V0 hF, v_eq V0 hF, wF_eq, wB_eq]
  rw [sum_congr rfl fun d _ => congrArg (fun y => (qR (pV V0) b h t d : EReal) * y) (hF.sf b h d x),
    sum_congr rfl fun d _ => congrArg (fun y => (qR (pV V0) b h t d : EReal) * y) (hF.sb b h d x),
    sitofp_nat _ (by omega), ofBits_8192, ← EReal.coe_one]
  simp only [← EReal.coe_mul, ← EReal.coe_add, ← EReal.coe_sub, ← coe_sum, Ideal.exp_coe]
  refine congrArg _ ?_
  exact reads_whole (fun d => qR (pV V0) b h t d) (fun j d => kR (pV V0) b h j d) (fun j => vR (pV V0) b h j x) _ _ _ _
    (fun d => kvR (pV V0) b h d x) (fun d j => dif_pos j.isLt) t

/-- The reference's result is the retention's. -/
theorem result_eq : result (res_main_v197 V0) (res_main_v199 V0) = retF (pV V0) (lfV V0) (lbV V0) (sfV V0) (sbV V0) := by
  funext i
  idx_vars i
  refine (result_at _ _ _ _ _).trans ?_
  show _ = readout (fun x => (oR (pV V0) (lfV V0) (lbV V0) (sfV V0) (sbV V0) i0 (hOf i2) i1 x : EReal)) (pV V0 (ix3 i0 i1 (gOf i2))) (xOf i2)
  rw [← g_at V0]
  exact congrArg (fun o => readout o _ _) (funext fun x => o_eq V0 hF _ _ _ x)

end Fine

end Cert.Ret
end
-- ==== Proof.Ret.Value.lean ====
/-
  The retention's value claim: on finite arguments the kernel's result over the extended reals is its reference's.
-/
module

public import proofs.«01_k».proof.Proof.Ret.Run
public import proofs.«01_k».proof.Proof.Ret.Out
public import proofs.«01_k».proof.Proof.Ret.Pre
public import proofs.«01_k».proof.Proof.Ret.Ref
public import proofs.«01_k».proof.Proof.Gen.Pre_finite_inputs
public import proofs.«01_k».proof.Defs

@[expose] public section

set_option maxRecDepth 200000

noncomputable section

namespace Cert.Ret

open Idealize.ShloMosaic Idealize.ShloMosaic.TcCoe Idealize.SL.Sem

theorem algebraic : Cert.algebraic_KernelIdeal_ReferenceIdeal_pre_finite_inputs := by
  intro m ρ m' ρ' hpre hagree
  have hF (c : Dev Cert.KernelIdeal.nD) : Fine (pArr m c) (lfArr m c) (lbArr m c) (sfArr m c) (sbArr m c) :=
    fine_of_pre _ _ _ _ _ (hpre c)
  refine ⟨fun c => (dats m 0 c).arrAt 11 Cert.KernelIdeal.cfg0.N, ?_, ?_⟩
  · have h := run_main m ρ
    have h' := frame m ρ
    exact ⟨fun t ht hf c => ⟨((h.post t ht hf).1 c).1 11, (h'.post t ht hf).1 c⟩, h.progress, h.fair⟩
  · refine (θ_run Cert.ReferenceIdeal.defs _ _).mono (fun r h c => ⟨((h c).1).trans ?_, (h c).2⟩)
      (Cert.ReferenceIdeal.Value.run (F := Ideal) m' ρ')
    obtain ⟨h0, h1, h2, h3, h4⟩ := hagree c
    have e0 : pV (StableHlo.launchContents m' c) = pArr m c := h0
    have e1 : lfV (StableHlo.launchContents m' c) = lfArr m c := h1
    have e2 : lbV (StableHlo.launchContents m' c) = lbArr m c := h2
    have e3 : sfV (StableHlo.launchContents m' c) = sfArr m c := h3
    have e4 : sbV (StableHlo.launchContents m' c) = sbArr m c := h4
    refine (result_eq (StableHlo.launchContents m' c) (by rw [e0, e1, e2, e3, e4]; exact hF c)).trans ?_
    rw [e0, e1, e2, e3, e4]
    exact (final11 m c (hF c)).symm

end Cert.Ret
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Pre_finite_inputs
public import proofs.«01_k».proof.Proof.InProj
public import proofs.«01_k».proof.Proof.Merge
public import proofs.«01_k».proof.Proof.Ctx
public import proofs.«01_k».proof.Proof.Conv
public import proofs.«01_k».proof.Proof.Ret.Run
public import proofs.«01_k».proof.Proof.Ret.Words
public import proofs.«01_k».proof.Proof.Ret.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import Idealize.ShloMosaic.Adequacy
public import Idealize.ShloMosaic.Init

@[expose] public section

noncomputable section

namespace Cert.Proof

open Idealize.ShloMosaic Idealize.SL.Sem

/-- The retention terminates and leaves its arguments unchanged. -/
theorem frame_kernelIdeal : Cert.quiescent_KernelIdeal := fun m ρ _ => Cert.Ret.frame m ρ

/-- The reference of the retention terminates and leaves its arguments unchanged. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The reference of the input projection terminates and leaves its arguments unchanged. -/
theorem frame_reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The reference of the merge terminates and leaves its arguments unchanged. -/
theorem frame_reference3 : Cert.quiescent_Reference3Ideal := fun m ρ _ =>
  (θ_run Cert.Reference3Ideal.defs _ _).mono
    (fun r h => ⟨fun c => (h c).2.2, sem_eq_zero_of_no_sems (by decide) r.2⟩)
    (Cert.Reference3Ideal.Value.run (F := Ideal) m ρ)

/-- The reference of the context states terminates and leaves its arguments unchanged. -/
theorem frame_reference4 : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Value.run (F := Ideal) m ρ)

/-- The reference of the short convolution terminates and leaves its arguments unchanged. -/
theorem frame_reference5 : Cert.quiescent_Reference5Ideal := fun m ρ _ =>
  (θ_run Cert.Reference5Ideal.defs _ _).mono
    (fun r h => ⟨fun c => (h c).2.2, sem_eq_zero_of_no_sems (by decide) r.2⟩)
    (Cert.Reference5Ideal.Value.run (F := Ideal) m ρ)

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite_inputs.Gen.facts,
    Cert.Ret.frame_kernel,
    frame_kernelIdeal,
    fun m ρ _ => frame_kernelIdeal m ρ trivial,
    frame_reference,
    fun m ρ _ => frame_reference m ρ trivial,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    frame_reference5,
    trivial, Cert.Ret.algebraic, trivial, Cert.InProj.algebraic, trivial, Cert.Merge.algebraic, trivial, Cert.Ctx.algebraic, trivial, Cert.Conv.algebraic⟩

end Cert.Proof

end
